-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S4x2048 : Shape := ⟨2, ![4, 2048]⟩
abbrev S128x256 : Shape := ⟨2, ![128, 256]⟩
abbrev S256 : Shape := ⟨1, ![256]⟩
abbrev S_ : Shape := ⟨0, ![]⟩
abbrev S1x128x256 : Shape := ⟨3, ![1, 128, 256]⟩
abbrev S16 : Shape := ⟨1, ![16]⟩
abbrev S1x16 : Shape := ⟨2, ![1, 16]⟩
abbrev S1x256 : Shape := ⟨2, ![1, 256]⟩

abbrev nBuf : Table → Nat
  | .hbm => 2
  | .local .scVector .vmem => 3
  | _ => 0

abbrev bufTy : (tb : Table) → Fin (nBuf tb) → BufTy
  | .hbm, ⟨0, _⟩ => ⟨S4x8192x2048, .f32⟩
  | .hbm, ⟨1, _⟩ => ⟨S4x2048, .i32⟩
  | .local .scVector .vmem, ⟨0, _⟩ => ⟨S128x256, .f32⟩
  | .local .scVector .vmem, ⟨1, _⟩ => ⟨S128x256, .f32⟩
  | .local .scVector .vmem, ⟨2, _⟩ => ⟨S256, .i32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_10 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, 0, v29.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c128_i32 : BitVec 32 := 128#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, 128, v29.toNat]
@[reducible] def k0_t1_loop : Scf.Loop 32 :=
  let c0_i32_14 : BitVec 32 := 0#32
  let c32_i32 : BitVec 32 := 32#32
  let v40 : BitVec 32 := Scalar.addi c0_i32_14 c32_i32
  let c1_i32_15 : BitVec 32 := 1#32
  ⟨c0_i32_14, v40, c1_i32_15⟩
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_17 : BitVec 32 := 2#32
  let c0_i32_14 : BitVec 32 := 0#32
  let c1_i32_15 : BitVec 32 := 1#32
  let arg9 : BitVec 32 := Scf.iv c0_i32_14 c1_i32_15 k0_t1
  let v90 : BitVec 32 := Scalar.muli c2_i32_17 arg9
  let c128_i32_18 : BitVec 32 := 128#32
  let v91 : BitVec 32 := Scalar.muli v90 c128_i32_18
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v91.toNat, v29.toNat]
@[reducible] def k0_t2_loop : Scf.Loop 32 :=
  let c0_i32_20 : BitVec 32 := 0#32
  let c128_i32_21 : BitVec 32 := 128#32
  let v97 : BitVec 32 := Scalar.addi c0_i32_20 c128_i32_21
  let c1_i32_22 : BitVec 32 := 1#32
  ⟨c0_i32_20, v97, c1_i32_22⟩
def k0_off4 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v117 : Index := Scalar.indexCast arg42
  let c0_35 : Index := 0#32
  ![v117.toNat, 0]
def k0_off5 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v123 : Index := Scalar.indexCast arg42
  let c16_36 : Index := 16#32
  ![v123.toNat, 16]
def k0_off6 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v129 : Index := Scalar.indexCast arg42
  let c32_37 : Index := 32#32
  ![v129.toNat, 32]
def k0_off7 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v135 : Index := Scalar.indexCast arg42
  let c48_38 : Index := 48#32
  ![v135.toNat, 48]
def k0_off8 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v141 : Index := Scalar.indexCast arg42
  let c64_39 : Index := 64#32
  ![v141.toNat, 64]
def k0_off9 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v147 : Index := Scalar.indexCast arg42
  let c80_40 : Index := 80#32
  ![v147.toNat, 80]
def k0_off10 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v153 : Index := Scalar.indexCast arg42
  let c96_41 : Index := 96#32
  ![v153.toNat, 96]
def k0_off11 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v159 : Index := Scalar.indexCast arg42
  let c112_42 : Index := 112#32
  ![v159.toNat, 112]
def k0_off12 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v165 : Index := Scalar.indexCast arg42
  let c128_43 : Index := 128#32
  ![v165.toNat, 128]
def k0_off13 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v171 : Index := Scalar.indexCast arg42
  let c144_44 : Index := 144#32
  ![v171.toNat, 144]
def k0_off14 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v177 : Index := Scalar.indexCast arg42
  let c160_45 : Index := 160#32
  ![v177.toNat, 160]
def k0_off15 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v183 : Index := Scalar.indexCast arg42
  let c176_46 : Index := 176#32
  ![v183.toNat, 176]
def k0_off16 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v189 : Index := Scalar.indexCast arg42
  let c192_47 : Index := 192#32
  ![v189.toNat, 192]
def k0_off17 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v195 : Index := Scalar.indexCast arg42
  let c208_48 : Index := 208#32
  ![v195.toNat, 208]
def k0_off18 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v201 : Index := Scalar.indexCast arg42
  let c224_49 : Index := 224#32
  ![v201.toNat, 224]
def k0_off19 (k0_t2 : Fin k0_t2_loop.trips) : Fin 2 → Nat :=
  let c0_i32_20 : BitVec 32 := 0#32
  let c1_i32_22 : BitVec 32 := 1#32
  let arg42 : BitVec 32 := Scf.iv c0_i32_20 c1_i32_22 k0_t2
  let v207 : Index := Scalar.indexCast arg42
  let c240_50 : Index := 240#32
  ![v207.toNat, 240]
def k0_cond1 (k0_t1 : Fin k0_t1_loop.trips) : BitVec 1 :=
  let c0_i32_14 : BitVec 32 := 0#32
  let c1_i32_15 : BitVec 32 := 1#32
  let arg9 : BitVec 32 := Scf.iv c0_i32_14 c1_i32_15 k0_t1
  let c31_i32 : BitVec 32 := 31#32
  let v99 : BitVec 1 := Scalar.cmpi .slt arg9 c31_i32
  let v100 : BitVec 32 := Scalar.extui v99
  let c0_i32_24 : BitVec 32 := 0#32
  let v101 : BitVec 1 := Scalar.cmpi .ne v100 c0_i32_24
  v101

def k0_off20 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_17 : BitVec 32 := 2#32
  let c0_i32_14 : BitVec 32 := 0#32
  let c1_i32_15 : BitVec 32 := 1#32
  let arg9 : BitVec 32 := Scf.iv c0_i32_14 c1_i32_15 k0_t1
  let v90 : BitVec 32 := Scalar.muli c2_i32_17 arg9
  let c2_i32_35 : BitVec 32 := 2#32
  let v115 : BitVec 32 := Scalar.addi v90 c2_i32_35
  let c128_i32_36 : BitVec 32 := 128#32
  let v116 : BitVec 32 := Scalar.muli v115 c128_i32_36
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v116.toNat, v29.toNat]
def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_17 : BitVec 32 := 2#32
  let c0_i32_14 : BitVec 32 := 0#32
  let c1_i32_15 : BitVec 32 := 1#32
  let arg9 : BitVec 32 := Scf.iv c0_i32_14 c1_i32_15 k0_t1
  let v90 : BitVec 32 := Scalar.muli c2_i32_17 arg9
  let c1_i32_25 : BitVec 32 := 1#32
  let v102 : BitVec 32 := Scalar.addi v90 c1_i32_25
  let c128_i32_26 : BitVec 32 := 128#32
  let v103 : BitVec 32 := Scalar.muli v102 c128_i32_26
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v103.toNat, v29.toNat]
@[reducible] def k0_t3_loop : Scf.Loop 32 :=
  let c0_i32_29 : BitVec 32 := 0#32
  let c128_i32_30 : BitVec 32 := 128#32
  let v110 : BitVec 32 := Scalar.addi c0_i32_29 c128_i32_30
  let c1_i32_31 : BitVec 32 := 1#32
  ⟨c0_i32_29, v110, c1_i32_31⟩
def k0_off22 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v117 : Index := Scalar.indexCast arg42
  let c0_35 : Index := 0#32
  ![v117.toNat, 0]
def k0_off23 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v123 : Index := Scalar.indexCast arg42
  let c16_36 : Index := 16#32
  ![v123.toNat, 16]
def k0_off24 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v129 : Index := Scalar.indexCast arg42
  let c32_37 : Index := 32#32
  ![v129.toNat, 32]
def k0_off25 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v135 : Index := Scalar.indexCast arg42
  let c48_38 : Index := 48#32
  ![v135.toNat, 48]
def k0_off26 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v141 : Index := Scalar.indexCast arg42
  let c64_39 : Index := 64#32
  ![v141.toNat, 64]
def k0_off27 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v147 : Index := Scalar.indexCast arg42
  let c80_40 : Index := 80#32
  ![v147.toNat, 80]
def k0_off28 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v153 : Index := Scalar.indexCast arg42
  let c96_41 : Index := 96#32
  ![v153.toNat, 96]
def k0_off29 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v159 : Index := Scalar.indexCast arg42
  let c112_42 : Index := 112#32
  ![v159.toNat, 112]
def k0_off30 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v165 : Index := Scalar.indexCast arg42
  let c128_43 : Index := 128#32
  ![v165.toNat, 128]
def k0_off31 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v171 : Index := Scalar.indexCast arg42
  let c144_44 : Index := 144#32
  ![v171.toNat, 144]
def k0_off32 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v177 : Index := Scalar.indexCast arg42
  let c160_45 : Index := 160#32
  ![v177.toNat, 160]
def k0_off33 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v183 : Index := Scalar.indexCast arg42
  let c176_46 : Index := 176#32
  ![v183.toNat, 176]
def k0_off34 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v189 : Index := Scalar.indexCast arg42
  let c192_47 : Index := 192#32
  ![v189.toNat, 192]
def k0_off35 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v195 : Index := Scalar.indexCast arg42
  let c208_48 : Index := 208#32
  ![v195.toNat, 208]
def k0_off36 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v201 : Index := Scalar.indexCast arg42
  let c224_49 : Index := 224#32
  ![v201.toNat, 224]
def k0_off37 (k0_t3 : Fin k0_t3_loop.trips) : Fin 2 → Nat :=
  let c0_i32_29 : BitVec 32 := 0#32
  let c1_i32_31 : BitVec 32 := 1#32
  let arg42 : BitVec 32 := Scf.iv c0_i32_29 c1_i32_31 k0_t3
  let v207 : Index := Scalar.indexCast arg42
  let c240_50 : Index := 240#32
  ![v207.toNat, 240]
def k0_cond2 (k0_t1 : Fin k0_t1_loop.trips) : BitVec 1 :=
  let c0_i32_14 : BitVec 32 := 0#32
  let c1_i32_15 : BitVec 32 := 1#32
  let arg9 : BitVec 32 := Scf.iv c0_i32_14 c1_i32_15 k0_t1
  let c31_i32_33 : BitVec 32 := 31#32
  let v112 : BitVec 1 := Scalar.cmpi .slt arg9 c31_i32_33
  let v113 : BitVec 32 := Scalar.extui v112
  let c0_i32_34 : BitVec 32 := 0#32
  let v114 : BitVec 1 := Scalar.cmpi .ne v113 c0_i32_34
  v114

def k0_off38 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_17 : BitVec 32 := 2#32
  let c0_i32_14 : BitVec 32 := 0#32
  let c1_i32_15 : BitVec 32 := 1#32
  let arg9 : BitVec 32 := Scf.iv c0_i32_14 c1_i32_15 k0_t1
  let v90 : BitVec 32 := Scalar.muli c2_i32_17 arg9
  let c3_i32 : BitVec 32 := 3#32
  let v115 : BitVec 32 := Scalar.addi v90 c3_i32
  let c128_i32_35 : BitVec 32 := 128#32
  let v116 : BitVec 32 := Scalar.muli v115 c128_i32_35
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v116.toNat, v29.toNat]
def k0_off39 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v29.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x2048 : Shape := ⟨3, ![4, 8192, 2048]⟩
abbrev S_ : Shape := ⟨0, ![]⟩
abbrev S4x2048 : Shape := ⟨2, ![4, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .i32⟩
  | .hbm, ⟨2, _⟩ => ⟨S_, .f32⟩
  | .hbm, ⟨3, _⟩ => ⟨S_, .i32⟩
  | .hbm, ⟨4, _⟩ => ⟨S4x2048, .f32⟩
  | .hbm, ⟨5, _⟩ => ⟨S4x2048, .i32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Proof.Scan.lean ====
/-
  The running maximum of a column, and the sixteen-lane vectors of them that the kernel carries.

  A column is a function `f : ℕ → F .f32` of the row. `scan f n` is the pair (largest entry, its first row) of the rows
  below `n`, begun at −∞ and row 0: row `n` replaces the pair exactly where its entry compares greater. A tile works on 256
  neighbouring columns, `cf k` the `k`-th of them, as sixteen groups of sixteen lanes: `maxs cf n g` and `rows cf n g` are
  the two vectors of group `g` after `n` rows, `carry cf n` all thirty-two together in the order in which the loops carry
  them. `chunk cf r` is the block of 128 rows from row `r` on.
-/
module

public import Idealize.ShloMosaic.Lib.Pipeline.Value

@[expose] public section

noncomputable section

namespace Cert.Proof.Scan

open Idealize.ShloMosaic

variable {F : FTy → Type} [FloatOps F]

/-- One row's step: the pair `p` is replaced by the entry `v` and its row `i` where `v` compares greater. -/
def step (p : F .f32 × BitVec 32) (v : F .f32) (i : BitVec 32) : F .f32 × BitVec 32 :=
  (Scalar.select (FloatOps.cmpf .ogt v p.1) v p.1, Scalar.select (FloatOps.cmpf .ogt v p.1) i p.2)

/-- The largest entry of the rows below `n` and the first row that holds it, begun at −∞ and row 0. -/
def scan (f : ℕ → F .f32) : ℕ → F .f32 × BitVec 32
  | 0 => (FloatOps.ofBits .f32 0xFF800000#32, 0#32)
  | n + 1 => step (scan f n) (f n) (BitVec.ofNat 32 n)

/-- The vector shapes of the kernel: sixteen lanes, and one row of sixteen lanes as it is loaded. -/
abbrev V16 : Shape := ⟨1, ![16]⟩
abbrev V1x16 : Shape := ⟨2, ![1, 16]⟩
abbrev V128x256 : Shape := ⟨2, ![128, 256]⟩

/-- Group `g`'s sixteen largest entries after `n` rows. -/
def maxs (cf : ℕ → ℕ → F .f32) (n : ℕ) (g : ℕ) : FVec F V16 .f32 := fun j => (scan (cf (16 * g + (j 0).val)) n).1
/-- Group `g`'s sixteen row numbers after `n` rows. -/
def rows (cf : ℕ → ℕ → F .f32) (n : ℕ) (g : ℕ) : IVec V16 32 := fun j => (scan (cf (16 * g + (j 0).val)) n).2

/-- The block of 128 rows from row `r` on. -/
def chunk (cf : ℕ → ℕ → F .f32) (r : ℕ) : V128x256.Idx → F .f32 := fun j => cf (j 1).val (r + (j 0).val)

/-- What a loop carries: sixteen vectors of entries, then sixteen of row numbers. -/
abbrev Carry (F : FTy → Type) : Type :=
  FVec F V16 .f32 × FVec F V16 .f32 × FVec F V16 .f32 × FVec F V16 .f32 × FVec F V16 .f32 × FVec F V16 .f32 × FVec F V16 .f32 × FVec F V16 .f32 ×
  FVec F V16 .f32 × FVec F V16 .f32 × FVec F V16 .f32 × FVec F V16 .f32 × FVec F V16 .f32 × FVec F V16 .f32 × FVec F V16 .f32 × FVec F V16 .f32 ×
  IVec V16 32 × IVec V16 32 × IVec V16 32 × IVec V16 32 × IVec V16 32 × IVec V16 32 × IVec V16 32 × IVec V16 32 ×
  IVec V16 32 × IVec V16 32 × IVec V16 32 × IVec V16 32 × IVec V16 32 × IVec V16 32 × IVec V16 32 × IVec V16 32

/-- The thirty-two vectors after `n` rows, in the loops' order. -/
def carry (cf : ℕ → ℕ → F .f32) (n : ℕ) : Carry F :=
  (maxs cf n 0, maxs cf n 1, maxs cf n 2, maxs cf n 3, maxs cf n 4, maxs cf n 5, maxs cf n 6, maxs cf n 7,
   maxs cf n 8, maxs cf n 9, maxs cf n 10, maxs cf n 11, maxs cf n 12, maxs cf n 13, maxs cf n 14, maxs cf n 15,
   rows cf n 0, rows cf n 1, rows cf n 2, rows cf n 3, rows cf n 4, rows cf n 5, rows cf n 6, rows cf n 7,
   rows cf n 8, rows cf n 9, rows cf n 10, rows cf n 11, rows cf n 12, rows cf n 13, rows cf n 14, rows cf n 15)

/-- Row `n` of group `g`, as a load brings it: one row of sixteen lanes. -/
def rowOf (cf : ℕ → ℕ → F .f32) (n : ℕ) (g : ℕ) : V1x16.Idx → F .f32 := fun j => cf (16 * g + (j 1).val) n

omit [FloatOps F] in
/-- The loaded row seen as a vector of sixteen lanes: lane `j` is column `16 g + j`. -/
theorem shapeCast_rowOf (cf : ℕ → ℕ → F .f32) (n g : ℕ) (h : V1x16.ShapeCasts V16) (j : V16.Idx) :
    shapeCast V16 (rowOf cf n g) h j = cf (16 * g + (j 0).val) n :=
  shapeCast_dropUnit_apply ![16] (rowOf cf n g) h j

/-- The entries' vector of a group after one more row, `v` that row as it was loaded. -/
theorem maxs_succ {cf : ℕ → ℕ → F .f32} {n k g : ℕ} {v : V1x16.Idx → F .f32} (hv : v = rowOf cf (n + k) g) (h : V1x16.ShapeCasts V16) :
    select (cmpf .ogt (shapeCast V16 v h) (maxs cf (n + k) g)) (shapeCast V16 v h) (maxs cf (n + k) g) = maxs cf (n + (k + 1)) g := by
  subst hv
  funext j
  simp only [← Nat.add_assoc, select, cmpf, shapeCast_rowOf, maxs, scan, step]
  rfl

/-- The row numbers' vector of a group after one more row, `u` the row's number in every lane. -/
theorem rows_succ {cf : ℕ → ℕ → F .f32} {n k g : ℕ} {v : V1x16.Idx → F .f32} {u : IVec V16 32} (hv : v = rowOf cf (n + k) g)
    (hu : u = broadcast V16 (BitVec.ofNat 32 (n + k))) (h : V1x16.ShapeCasts V16) :
    select (cmpf .ogt (shapeCast V16 v h) (maxs cf (n + k) g)) u (rows cf (n + k) g) = rows cf (n + (k + 1)) g := by
  subst hv hu
  funext j
  simp only [← Nat.add_assoc, select, cmpf, shapeCast_rowOf, maxs, rows, scan, step, broadcast]
  rfl

omit [FloatOps F] in
/-- Sixteen columns of row `k` of a block, loaded, are row `n + k` of their group. -/
theorem load_chunk (cf : ℕ → ℕ → F .f32) (n k g : ℕ) {off : Fin 2 → ℕ} (h : off = ![k, 16 * g])
    (inb : ∀ a, off a + (![1, 16] : Fin 2 → ℕ) a ≤ V128x256.size a) :
    (fun x => chunk cf n ((Rect.unit (s := V128x256) off ![1, 16] inb).toLoadRect.idx x)) = rowOf cf (n + k) g := by
  subst h
  funext x
  have h0 : (x 0).val = 0 := by have := (x 0).isLt; simp at this; omega
  show cf (16 * g + 1 * (x 1).val) (n + (k + 1 * (x 0).val)) = cf (16 * g + (x 1).val) (n + k)
  rw [h0, Nat.one_mul, Nat.mul_zero, Nat.add_zero]

/-! ## The array -/

/-- The argument's shape and the result's. -/
abbrev VX : Shape := ⟨3, ![4, 8192, 2048]⟩
abbrev VO : Shape := ⟨2, ![4, 2048]⟩

/-- Batch `b`, row `n`, column `c` as an index (each number taken modulo its extent, so that every triple is one). -/
def at3 (b n c : ℕ) : VX.Idx
  | 0 => ⟨b % 4, Nat.mod_lt _ (by decide)⟩
  | 1 => ⟨n % 8192, Nat.mod_lt _ (by decide)⟩
  | 2 => ⟨c % 2048, Nat.mod_lt _ (by decide)⟩

omit [FloatOps F] in
/-- The triple of an index's own coordinates is the index. -/
theorem at3_eq {b n c : ℕ} (j : VX.Idx) (h0 : (j 0).val = b) (h1 : (j 1).val = n) (h2 : (j 2).val = c) : at3 b n c = j := by
  funext a
  match a with
  | 0 => exact Fin.ext (by subst h0; exact Nat.mod_eq_of_lt (j 0).isLt)
  | 1 => exact Fin.ext (by subst h1; exact Nat.mod_eq_of_lt (j 1).isLt)
  | 2 => exact Fin.ext (by subst h2; exact Nat.mod_eq_of_lt (j 2).isLt)

/-- Column `c` of batch `b`, as a function of the row. -/
def col (X : VX.Idx → F .f32) (b c : ℕ) : ℕ → F .f32 := fun n => X (at3 b n c)

/-- The columns of batch `b` from column `c` on. -/
def cols (X : VX.Idx → F .f32) (b c : ℕ) : ℕ → ℕ → F .f32 := fun k => col X b (c + k)

/-- The result: for each batch and column the first row that holds the column's largest entry. -/
def result (X : VX.Idx → F .f32) : VO.Idx → BitVec 32 := fun j => (scan (col X (j 0).val (j 1).val) 8192).2

end Cert.Proof.Scan

end
-- ==== Proof.Offsets.lean ====
/-
  Where a tile works. Tile (c, s) has number `2 s + c` among the thirty-two; eight neighbouring tiles share a batch, each
  256 columns of it. The kernel computes the offsets of its slices by 32-bit words; here they are as numbers: chunk `c` of
  the tile's columns starts at row `128 c` of its batch.
-/
module

public import proofs.«01_k».proof.Defs
public import proofs.«01_k».proof.Proof.Gen.KernelIdeal

@[expose] public section

noncomputable section

namespace Cert.Proof.KI

open Cert.KernelIdeal Cert.KernelIdeal.Gen

open Idealize.ShloMosaic

/-- The tile's number among the thirty-two. -/
def wid (L : grid0.Coords) : ℕ := 2 * (L 1).val + (L 0).val
/-- The batch it works in. -/
def bat (L : grid0.Coords) : ℕ := wid L / 8
/-- The first of its 256 columns. -/
def col0 (L : grid0.Coords) : ℕ := wid L % 8 * 256

/-- There are four batches. -/
theorem bat_lt : ∀ L : grid0.Coords, bat L < 4 := by decide +kernel
/-- The tile's columns lie within the 2048. -/
theorem col0_le : ∀ L : grid0.Coords, col0 L + 256 ≤ 2048 := by decide +kernel

/-! The slices of `x` that are fetched: the first two chunks before the loop, and in trip `t` chunks `2 t`, `2 t + 2`,
    `2 t + 1` and `2 t + 3`; and the slice of the result. -/

theorem off1_eq : ∀ L : grid0.Coords, k0_off1 L = ![bat L, 0, col0 L] := by decide +kernel
theorem off2_eq : ∀ L : grid0.Coords, k0_off2 L = ![bat L, 128, col0 L] := by decide +kernel
theorem off39_eq : ∀ L : grid0.Coords, k0_off39 L = ![bat L, col0 L] := by decide +kernel
theorem off3_eq : ∀ (L : grid0.Coords) (t : Fin k0_t1_loop.trips), k0_off3 L t = ![bat L, 128 * (2 * t), col0 L] := by decide +kernel
theorem off20_eq : ∀ (L : grid0.Coords) (t : Fin k0_t1_loop.trips), k0_off20 L t = ![bat L, 128 * (2 * (t + 1)), col0 L] := by decide +kernel
theorem off21_eq : ∀ (L : grid0.Coords) (t : Fin k0_t1_loop.trips), k0_off21 L t = ![bat L, 128 * (2 * t + 1), col0 L] := by decide +kernel
theorem off38_eq : ∀ (L : grid0.Coords) (t : Fin k0_t1_loop.trips), k0_off38 L t = ![bat L, 128 * (2 * (t + 1) + 1), col0 L] := by decide +kernel

/-! The fetches inside the loop are made in every trip but the last. -/

theorem cond1_iff : ∀ t : Fin k0_t1_loop.trips, k0_cond1 t = 1#1 ↔ t.val < 31 := by decide +kernel
theorem cond2_iff : ∀ t : Fin k0_t1_loop.trips, k0_cond2 t = 1#1 ↔ t.val < 31 := by decide +kernel

/-! The first row of each of a trip's two chunks, as the kernel computes it. -/

theorem word_a : ∀ t : Fin k0_t1_loop.trips, Scalar.muli (Scalar.muli 2#32 (Scf.iv 0#32 1#32 t)) 128#32 = BitVec.ofNat 32 (128 * (2 * t)) := by
  decide +kernel
theorem word_b : ∀ t : Fin k0_t1_loop.trips,
    Scalar.muli (Scalar.addi (Scalar.muli 2#32 (Scf.iv 0#32 1#32 t)) 1#32) 128#32 = BitVec.ofNat 32 (128 * (2 * t + 1)) := by
  decide +kernel

end Cert.Proof.KI
end
-- ==== Proof.Loops.lean ====
/-
  One chunk of 128 rows, scanned by a tile. The kernel has two buffers for chunks, and the same counted loop of 128 trips
  for each of them: a trip loads row `k` of the buffer, sixteen lanes at a time, and takes the step of the running maximum
  (Scan.lean) in each lane. `trip_a` and `trip_b` state it of one trip: from the thirty-two vectors after `n + k` rows and
  the buffer holding the rows from `n` on, to the vectors after `n + k + 1` rows, the buffer as it was.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Scan
public import proofs.«01_k».proof.Proof.Offsets
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

/-- The program's labels, the call and the definitions it runs under, as the launch names them. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- The ghost state: the rounds of the handshakes, and counters for the copies. -/
abbrev UH : Type := URounds (GSem nD τ sig) ℕ
abbrev UU : Type := UH × Counters

local notation "𝕄" => MT nD τ sig (HIx 1) (Elt F) ℕ UU ℕ

/-- The argument, as a tile names it. -/
abbrev xV : Memref sig .scVector .hbm S4x8192x2048 .f32 := Memref.whole main_arg0_scv
/-- The result's array. -/
abbrev oV : Memref sig .scVector .hbm S4x2048 .i32 := Memref.whole main_v0_scv
/-- The first buffer for chunks. -/
abbrev aV : Memref sig .scVector .vmem S128x256 .f32 := Memref.whole cc0_scratch0
/-- The second buffer for chunks. -/
abbrev bV : Memref sig .scVector .vmem S128x256 .f32 := Memref.whole cc0_scratch1
/-- The buffer for row numbers. -/
abbrev rV : Memref sig .scVector .vmem S256 .i32 := Memref.whole cc0_scratch2

variable [FloatOps F]
variable (d : Dev nD) (L : grid0.Coords)

/-- The SparseCore of tile `L`. -/
abbrev cV (L : grid0.Coords) : Fin τ.nSC := (L 0).castLE hcore0
/-- Its number in that SparseCore. -/
abbrev jV (L : grid0.Coords) : Fin τ.nSub := (L 1).castLE hsub0

/-- Sixteen columns of row `k` of the first buffer, loaded. -/
theorem load_a (cf : ℕ → ℕ → F .f32) (n k g : ℕ) {off : Fin 2 → ℕ} (h : off = ![k, 16 * g])
    (inb : ∀ a, off a + S1x16.size a ≤ S128x256.size a) :
    View.readAt (Elt F) (aV).view (Rect.unit (s := S128x256) off S1x16.size inb).toLoadRect (chunk cf n) = rowOf cf (n + k) g :=
  load_chunk cf n k g h inb

/-- The first loop's row number, in every lane. -/
theorem index_a (n : ℕ) (k : Fin k0_t2_loop.trips) : k0_pay7 (BitVec.ofNat 32 n) 0#32 1#32 k = broadcast V16 (BitVec.ofNat 32 (n + k)) := by
  funext j
  simp only [k0_pay7, broadcast, Scf.iv, Scalar.addi, BitVec.ofNat_add]
  simp only [BitVec.zero_add, BitVec.mul_one, IntOp.addi]

/-- The first buffer at the block of 128 rows from row `n` on. -/
abbrev aChunk (cf : ℕ → ℕ → F .f32) (n : ℕ) : sProp 𝕄 :=
  (aV).view.loc (V d (cV L) (jV L)) ↦{fullShare} (chunk cf n : Buf (Elt F) ((aV).view.loc (V d (cV L) (jV L))))

/-- Before trip `k` of the first buffer's loop: the vectors after `n + k` rows, the buffer at the rows from `n` on. -/
def inv_a (cf : ℕ → ℕ → F .f32) (n k : ℕ) (acc : Carry F) : sProp 𝕄 :=
  iprop(⌜acc = carry cf (n + k)⌝ ∗ aChunk d L cf n)

set_option maxHeartbeats 4000000 in
/-- One trip of the first buffer's loop: one more row. -/
theorem trip_a (cf : ℕ → ℕ → F .f32) (n : ℕ) {w : BitVec 32} (hw : w = BitVec.ofNat 32 n) (k : Fin k0_t2_loop.trips) (acc : Carry F) :
    inv_a d L cf n k acc
      ⊢ wp frame (wpE (defs₀ (F := F)) 𝒱₀ (V d (cV L) (jV L)) none) Set.univ
          (k0_t2_body L xV (Memref.isWhole_whole _) oV (Memref.isWhole_whole _)
            aV (Memref.isWhole_whole _) bV (Memref.isWhole_whole _) rV (Memref.isWhole_whole _)
            cc0_scratch3 cc0_scratch4 cc0_scoped0 w k acc)
          (inv_a d L cf n (k + 1)) := by
  subst hw
  unfold inv_a
  iintro ⟨%hacc, Ha⟩
  subst hacc
  unfold carry
  sl_exec
  sl_step
  isplitr
  · ipureintro
    have hu := index_a n k
    simp only [Prod.mk.injEq]
    exact ⟨maxs_succ (load_a cf n k 0 (k0_off4_eq k) _) _, maxs_succ (load_a cf n k 1 (k0_off5_eq k) _) _,
      maxs_succ (load_a cf n k 2 (k0_off6_eq k) _) _, maxs_succ (load_a cf n k 3 (k0_off7_eq k) _) _,
      maxs_succ (load_a cf n k 4 (k0_off8_eq k) _) _, maxs_succ (load_a cf n k 5 (k0_off9_eq k) _) _,
      maxs_succ (load_a cf n k 6 (k0_off10_eq k) _) _, maxs_succ (load_a cf n k 7 (k0_off11_eq k) _) _,
      maxs_succ (load_a cf n k 8 (k0_off12_eq k) _) _, maxs_succ (load_a cf n k 9 (k0_off13_eq k) _) _,
      maxs_succ (load_a cf n k 10 (k0_off14_eq k) _) _, maxs_succ (load_a cf n k 11 (k0_off15_eq k) _) _,
      maxs_succ (load_a cf n k 12 (k0_off16_eq k) _) _, maxs_succ (load_a cf n k 13 (k0_off17_eq k) _) _,
      maxs_succ (load_a cf n k 14 (k0_off18_eq k) _) _, maxs_succ (load_a cf n k 15 (k0_off19_eq k) _) _,
      rows_succ (load_a cf n k 0 (k0_off4_eq k) _) hu _, rows_succ (load_a cf n k 1 (k0_off5_eq k) _) hu _,
      rows_succ (load_a cf n k 2 (k0_off6_eq k) _) hu _, rows_succ (load_a cf n k 3 (k0_off7_eq k) _) hu _,
      rows_succ (load_a cf n k 4 (k0_off8_eq k) _) hu _, rows_succ (load_a cf n k 5 (k0_off9_eq k) _) hu _,
      rows_succ (load_a cf n k 6 (k0_off10_eq k) _) hu _, rows_succ (load_a cf n k 7 (k0_off11_eq k) _) hu _,
      rows_succ (load_a cf n k 8 (k0_off12_eq k) _) hu _, rows_succ (load_a cf n k 9 (k0_off13_eq k) _) hu _,
      rows_succ (load_a cf n k 10 (k0_off14_eq k) _) hu _, rows_succ (load_a cf n k 11 (k0_off15_eq k) _) hu _,
      rows_succ (load_a cf n k 12 (k0_off16_eq k) _) hu _, rows_succ (load_a cf n k 13 (k0_off17_eq k) _) hu _,
      rows_succ (load_a cf n k 14 (k0_off18_eq k) _) hu _, rows_succ (load_a cf n k 15 (k0_off19_eq k) _) hu _⟩
  · iexact Ha

/-- Sixteen columns of row `k` of the second buffer, loaded. -/
theorem load_b (cf : ℕ → ℕ → F .f32) (n k g : ℕ) {off : Fin 2 → ℕ} (h : off = ![k, 16 * g])
    (inb : ∀ a, off a + S1x16.size a ≤ S128x256.size a) :
    View.readAt (Elt F) (bV).view (Rect.unit (s := S128x256) off S1x16.size inb).toLoadRect (chunk cf n) = rowOf cf (n + k) g :=
  load_chunk cf n k g h inb

/-- The second loop's row number, in every lane. -/
theorem index_b (n : ℕ) (k : Fin k0_t3_loop.trips) : k0_pay40 (BitVec.ofNat 32 n) 0#32 1#32 k = broadcast V16 (BitVec.ofNat 32 (n + k)) := by
  funext j
  simp only [k0_pay40, broadcast, Scf.iv, Scalar.addi, BitVec.ofNat_add]
  simp only [BitVec.zero_add, BitVec.mul_one, IntOp.addi]

/-- The second buffer at the block of 128 rows from row `n` on. -/
abbrev bChunk (cf : ℕ → ℕ → F .f32) (n : ℕ) : sProp 𝕄 :=
  (bV).view.loc (V d (cV L) (jV L)) ↦{fullShare} (chunk cf n : Buf (Elt F) ((bV).view.loc (V d (cV L) (jV L))))

/-- Before trip `k` of the second buffer's loop: the vectors after `n + k` rows, the buffer at the rows from `n` on. -/
def inv_b (cf : ℕ → ℕ → F .f32) (n k : ℕ) (acc : Carry F) : sProp 𝕄 :=
  iprop(⌜acc = carry cf (n + k)⌝ ∗ bChunk d L cf n)

set_option maxHeartbeats 4000000 in
/-- One trip of the second buffer's loop: one more row. -/
theorem trip_b (cf : ℕ → ℕ → F .f32) (n : ℕ) {w : BitVec 32} (hw : w = BitVec.ofNat 32 n) (k : Fin k0_t3_loop.trips) (acc : Carry F) :
    inv_b d L cf n k acc
      ⊢ wp frame (wpE (defs₀ (F := F)) 𝒱₀ (V d (cV L) (jV L)) none) Set.univ
          (k0_t3_body L xV (Memref.isWhole_whole _) oV (Memref.isWhole_whole _)
            aV (Memref.isWhole_whole _) bV (Memref.isWhole_whole _) rV (Memref.isWhole_whole _)
            cc0_scratch3 cc0_scratch4 cc0_scoped0 w k acc)
          (inv_b d L cf n (k + 1)) := by
  subst hw
  unfold inv_b
  iintro ⟨%hacc, Ha⟩
  subst hacc
  unfold carry
  sl_exec
  sl_step
  isplitr
  · ipureintro
    have hu := index_b n k
    simp only [Prod.mk.injEq]
    exact ⟨maxs_succ (load_b cf n k 0 (k0_off22_eq k) _) _, maxs_succ (load_b cf n k 1 (k0_off23_eq k) _) _,
      maxs_succ (load_b cf n k 2 (k0_off24_eq k) _) _, maxs_succ (load_b cf n k 3 (k0_off25_eq k) _) _,
      maxs_succ (load_b cf n k 4 (k0_off26_eq k) _) _, maxs_succ (load_b cf n k 5 (k0_off27_eq k) _) _,
      maxs_succ (load_b cf n k 6 (k0_off28_eq k) _) _, maxs_succ (load_b cf n k 7 (k0_off29_eq k) _) _,
      maxs_succ (load_b cf n k 8 (k0_off30_eq k) _) _, maxs_succ (load_b cf n k 9 (k0_off31_eq k) _) _,
      maxs_succ (load_b cf n k 10 (k0_off32_eq k) _) _, maxs_succ (load_b cf n k 11 (k0_off33_eq k) _) _,
      maxs_succ (load_b cf n k 12 (k0_off34_eq k) _) _, maxs_succ (load_b cf n k 13 (k0_off35_eq k) _) _,
      maxs_succ (load_b cf n k 14 (k0_off36_eq k) _) _, maxs_succ (load_b cf n k 15 (k0_off37_eq k) _) _,
      rows_succ (load_b cf n k 0 (k0_off22_eq k) _) hu _, rows_succ (load_b cf n k 1 (k0_off23_eq k) _) hu _,
      rows_succ (load_b cf n k 2 (k0_off24_eq k) _) hu _, rows_succ (load_b cf n k 3 (k0_off25_eq k) _) hu _,
      rows_succ (load_b cf n k 4 (k0_off26_eq k) _) hu _, rows_succ (load_b cf n k 5 (k0_off27_eq k) _) hu _,
      rows_succ (load_b cf n k 6 (k0_off28_eq k) _) hu _, rows_succ (load_b cf n k 7 (k0_off29_eq k) _) hu _,
      rows_succ (load_b cf n k 8 (k0_off30_eq k) _) hu _, rows_succ (load_b cf n k 9 (k0_off31_eq k) _) hu _,
      rows_succ (load_b cf n k 10 (k0_off32_eq k) _) hu _, rows_succ (load_b cf n k 11 (k0_off33_eq k) _) hu _,
      rows_succ (load_b cf n k 12 (k0_off34_eq k) _) hu _, rows_succ (load_b cf n k 13 (k0_off35_eq k) _) hu _,
      rows_succ (load_b cf n k 14 (k0_off36_eq k) _) hu _, rows_succ (load_b cf n k 15 (k0_off37_eq k) _) hu _⟩
  · iexact Ha

end Cert.Proof.KI

end
-- ==== Proof.Tile.lean ====
/-
  One trip of the tile's main loop. A trip takes two chunks of 128 rows, one from each buffer: it waits for the fetch into
  the first buffer, runs the 128 rows through the running maximum (Loops.lean), starts the fetch of the next chunk but one
  into the same buffer, and does the same with the second. The last trip starts no fetch. Each buffer's fetches read `x`
  under a share of their own, so that two may be under way together. `trip` states that a trip carries the invariant `inv`
  from `k` to `k + 1`.
-/
module

public import proofs.«01_k».proof.Proof.Loops

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

local notation "𝕄" => MT nD τ sig (HIx 1) (Elt F) ℕ UU ℕ

variable [FloatOps F]
variable (d : Dev nD) (L : grid0.Coords)
variable (X : S4x8192x2048.Idx → F .f32) (q₀ q₁ : PosShare TreeShare)

/-- The tile's 256 columns. -/
abbrev cf (L : grid0.Coords) (X : S4x8192x2048.Idx → F .f32) : ℕ → ℕ → F .f32 := cols X (bat L) (col0 L)

/-- A share `q` of the places `S` of the argument, which holds `X`. -/
abbrev xOn (S : Finset S4x8192x2048.Idx) (q : PosShare TreeShare) : sProp 𝕄 :=
  (xV).view.loc (V d (cV L) (jV L)) ↦[S]{q} (X : Buf (Elt F) ((xV).view.loc (V d (cV L) (jV L))))

/-- A fetch of chunk `c` into the first buffer is under way: when it lands the buffer holds the chunk, and the slice that
    it reads comes back to the share of `x` set aside for this buffer. -/
def fly_a (c : ℕ) : sProp 𝕄 :=
  iprop(∃ S, Transfers.Flight countersEmb (V d (cV L) (jV L)) (.dma cc0_scratch3.sem) (default : HIx 1) (aV).view.dmaCredit
    iprop(aChunk d L (cf L X) (128 * c) ∗ xOn d L X S q₀) ∗ xOn d L X (Finset.univ \ S) q₀)
/-- The same for the second buffer. -/
def fly_b (c : ℕ) : sProp 𝕄 :=
  iprop(∃ S, Transfers.Flight countersEmb (V d (cV L) (jV L)) (.dma cc0_scratch4.sem) (default : HIx 1) (bV).view.dmaCredit
    iprop(bChunk d L (cf L X) (128 * c) ∗ xOn d L X S q₁) ∗ xOn d L X (Finset.univ \ S) q₁)

/-- No fetch into the first buffer is under way. -/
def idle_a : sProp 𝕄 :=
  iprop((∃ f, (aV).view.loc (V d (cV L) (jV L)) ↦{fullShare} f) ∗ semVal (V d (cV L) (jV L), .dma cc0_scratch3.sem) 0 ∗ xOn d L X Finset.univ q₀)
/-- No fetch into the second buffer is under way. -/
def idle_b : sProp 𝕄 :=
  iprop((∃ f, (bV).view.loc (V d (cV L) (jV L)) ↦{fullShare} f) ∗ semVal (V d (cV L) (jV L), .dma cc0_scratch4.sem) 0 ∗ xOn d L X Finset.univ q₁)

/-- The slice of `x` at offsets `off`, as a fetch reads it. -/
abbrev src (off : Fin 3 → ℕ) (inb : ∀ a, off a + S1x128x256.size a ≤ S4x8192x2048.size a) : Memref sig .scVector .hbm S128x256 .f32 :=
  ((xV).slice (Rect.unit (s := S4x8192x2048) off S1x128x256.size inb) (fun _ => rfl)).squeeze S128x256 squeezes_S1x128x256_S128x256

omit [FloatOps F] in
/-- What a fetch of chunk `c` reads. -/
theorem fetched (c : ℕ) {off : Fin 3 → ℕ} (h : off = ![bat L, 128 * c, col0 L]) (hc : c < 64) (inb : ∀ a, off a + S1x128x256.size a ≤ S4x8192x2048.size a) :
    (src off inb).view.read (Elt F) X = chunk (cf L X) (128 * c) := by
  subst h
  rw [Memref.read_squeeze_slice (Val := Elt F) xV _ _ squeezes_S1x128x256_S128x256 (show S1x128x256.ShapeCasts S128x256 by decide)]
  funext j
  refine (shapeCast_dropUnit_apply ![128, 256] _ _ j).trans ?_
  have h0 := bat_lt L
  have h1 := col0_le L
  refine congrArg X (at3_eq _ ?_ ?_ ?_).symm
  · show bat L + 1 * 0 = bat L; omega
  · show 128 * c + 1 * (j 0).val = 128 * c + (j 0).val; omega
  · show col0 L + 1 * (j 1).val = col0 L + (j 1).val; omega

/-- A fetch of chunk `c` into the first buffer, under way. -/
theorem fetch_a {c : ℕ} {off : Fin 3 → ℕ} (h : off = ![bat L, 128 * c, col0 L]) (hc : c < 64)
    (inb : ∀ a, off a + S1x128x256.size a ≤ S4x8192x2048.size a) (f : S128x256.Idx → F .f32) :
    (iprop(Transfers.Flight countersEmb (V d (cV L) (jV L)) (.dma cc0_scratch3.sem) (default : HIx 1) (aV).view.dmaCredit
        iprop(((aV).view.loc (V d (cV L) (jV L)) ↦{fullShare} View.write (Elt F) (aV).view f ((src off inb).view.read (Elt F) X) Finset.univ)
          ∗ xOn d L X (src off inb).view.set q₀)
      ∗ xOn d L X (Finset.univ \ (src off inb).view.set) q₀) : sProp 𝕄) ⊢ fly_a d L X q₀ c := by
  unfold fly_a
  rw [fetched L X c h hc inb, View.write_whole_univ]
  iintro ⟨H, Hx⟩
  iexists (src off inb).view.set
  isplitl [H]
  · iexact H
  · iexact Hx

/-- A fetch of chunk `c` into the second buffer, under way. -/
theorem fetch_b {c : ℕ} {off : Fin 3 → ℕ} (h : off = ![bat L, 128 * c, col0 L]) (hc : c < 64)
    (inb : ∀ a, off a + S1x128x256.size a ≤ S4x8192x2048.size a) (f : S128x256.Idx → F .f32) :
    (iprop(Transfers.Flight countersEmb (V d (cV L) (jV L)) (.dma cc0_scratch4.sem) (default : HIx 1) (bV).view.dmaCredit
        iprop(((bV).view.loc (V d (cV L) (jV L)) ↦{fullShare} View.write (Elt F) (bV).view f ((src off inb).view.read (Elt F) X) Finset.univ)
          ∗ xOn d L X (src off inb).view.set q₁)
      ∗ xOn d L X (Finset.univ \ (src off inb).view.set) q₁) : sProp 𝕄) ⊢ fly_b d L X q₁ c := by
  unfold fly_b
  rw [fetched L X c h hc inb, View.write_whole_univ]
  iintro ⟨H, Hx⟩
  iexists (src off inb).view.set
  isplitl [H]
  · iexact H
  · iexact Hx

variable (O : CellTallies nD τ sig (HIx 1)) (W : Waits sig (HIx 1))

omit [FloatOps F] in
/-- One more wait on a copy of the tile's own keeps the tile's waits within what is allowed. -/
theorem waits_insert {W W' : Waits sig (HIx 1)} {s : SemLoc sig} (h : ∀ p ∈ W', p ∈ W ∨ p.2 = none) :
    ∀ p ∈ insert (s, (default : HIx 1)) W', p ∈ W ∨ p.2 = none := fun p hp =>
  (Finset.mem_insert.mp hp).elim (fun e => .inr (e ▸ rfl)) (h p)

/-- Before trip `k`: the vectors carried are those after `256 k` rows; chunk `2 k` is on its way into the first buffer and
    chunk `2 k + 1` into the second, except after the last trip, when nothing is; the tile waits on its own copies only. -/
def inv (k : ℕ) (acc : Carry F) : sProp 𝕄 :=
  iprop(⌜acc = carry (cf L X) (128 * (2 * k))⌝
    ∗ (if k < 32 then iprop(fly_a d L X q₀ (2 * k) ∗ fly_b d L X q₁ (2 * k + 1)) else iprop(idle_a d L X q₀ ∗ idle_b d L X q₁))
    ∗ Transfers.MayWaits (V d (cV L) (jV L)) (default : HIx 1) O
    ∗ ∃ W', ⌜∀ p ∈ W', p ∈ W ∨ p.2 = none⌝ ∗ owes (V d (cV L) (jV L)) O W')

set_option maxHeartbeats 4000000 in
/-- A trip of the main loop carries the invariant one trip on. -/
theorem trip (k : Fin k0_t1_loop.trips) (acc : Carry F) :
    inv d L X q₀ q₁ O W k acc
      ⊢ wp frame (wpE (defs₀ (F := F)) 𝒱₀ (V d (cV L) (jV L)) none) Set.univ
          (k0_t1_body L xV (Memref.isWhole_whole _) oV (Memref.isWhole_whole _)
            aV (Memref.isWhole_whole _) bV (Memref.isWhole_whole _) rV (Memref.isWhole_whole _)
            cc0_scratch3 cc0_scratch4 cc0_scoped0 k acc)
          (inv d L X q₀ q₁ O W (k + 1)) := by
  have hk : k.val < 32 := k.isLt
  have e : inv d L X q₀ q₁ O W k acc = iprop(⌜acc = carry (cf L X) (128 * (2 * k))⌝
      ∗ (fly_a d L X q₀ (2 * k) ∗ fly_b d L X q₁ (2 * k + 1))
      ∗ Transfers.MayWaits (V d (cV L) (jV L)) (default : HIx 1) O
      ∗ ∃ W', ⌜∀ p ∈ W', p ∈ W ∨ p.2 = none⌝ ∗ owes (V d (cV L) (jV L)) O W') := by
    unfold inv; rw [if_pos hk]
  rw [e]
  unfold fly_a fly_b
  iintro ⟨%hacc, ⟨⟨%Sa, Ha, Hxa⟩, ⟨%Sb, Hb, Hxb⟩⟩, Hmw, %W', %hW', HO⟩
  subst hacc
  unfold carry
  sl_exec
  sl_for (inv_a d L (cf L X) (128 * (2 * k))) $$ [Ha_dst]
  case region => exact trip_a d L (cf L X) (128 * (2 * k)) (word_a k)
  · unfold inv_a
    isplitr
    · ipureintro; rfl
    · iexact Ha_dst
  unfold inv_a
  rw [show 128 * (2 * k.val) + Scf.trips k0_t2_loop.lb k0_t2_loop.ub k0_t2_loop.st = 128 * (2 * k.val + 1) from rfl]
  iintro %acc ⟨%hacc, Ha_dst⟩
  subst hacc
  unfold carry
  by_cases h : k.val < 31
  · have h1 := (cond1_iff k).mpr h
    have h2 := (cond2_iff k).mpr h
    sl_exec
    sl_for (inv_b d L (cf L X) (128 * (2 * k + 1))) $$ [Hb_dst]
    case region => exact trip_b d L (cf L X) (128 * (2 * k + 1)) (word_b k)
    · unfold inv_b
      isplitr
      · ipureintro; rfl
      · iexact Hb_dst
    unfold inv_b
    rw [show 128 * (2 * k.val + 1) + Scf.trips k0_t3_loop.lb k0_t3_loop.ub k0_t3_loop.st = 128 * (2 * (k.val + 1)) from rfl]
    iintro %acc ⟨%hacc, Hb_dst⟩
    subst hacc
    unfold carry
    sl_exec
    sl_step
    unfold inv
    rw [if_pos (show k.val + 1 < 32 by omega)]
    isplitr
    · ipureintro; rfl
    isplitl [Ha Hxa Hb Hxb]
    · isplitl [Ha Hxa]
      · iapply (fetch_a d L X q₀ (off20_eq L k) (by omega)); isplitl [Ha]; · iexact Ha
        iexact Hxa
      · iapply (fetch_b d L X q₁ (off38_eq L k) (by omega)); isplitl [Hb]; · iexact Hb
        iexact Hxb
    isplitl [Hmw]; · iexact Hmw
    iexists _; isplitr
    swap; · iexact HO
    ipureintro; exact waits_insert (waits_insert hW')
  · have h1 := fun e => h ((cond1_iff k).mp e)
    have h2 := fun e => h ((cond2_iff k).mp e)
    sl_exec
    sl_for (inv_b d L (cf L X) (128 * (2 * k + 1))) $$ [Hb_dst]
    case region => exact trip_b d L (cf L X) (128 * (2 * k + 1)) (word_b k)
    · unfold inv_b
      isplitr
      · ipureintro; rfl
      · iexact Hb_dst
    unfold inv_b
    rw [show 128 * (2 * k.val + 1) + Scf.trips k0_t3_loop.lb k0_t3_loop.ub k0_t3_loop.st = 128 * (2 * (k.val + 1)) from rfl]
    iintro %acc ⟨%hacc, Hb_dst⟩
    subst hacc
    unfold carry
    sl_exec
    sl_step
    unfold inv
    rw [if_neg (show ¬ k.val + 1 < 32 by omega)]
    isplitr
    · ipureintro; rfl
    isplitl [Ha Ha_dst Hxa Hb Hb_dst Hxb]
    · unfold idle_a idle_b
      isplitl [Ha Ha_dst Hxa]
      · isplitl [Ha_dst]; · iexists _; iexact Ha_dst
        isplitl [Ha]; · iexact Ha
        iexact Hxa
      · isplitl [Hb_dst]; · iexists _; iexact Hb_dst
        isplitl [Hb]; · iexact Hb
        iexact Hxb
    isplitl [Hmw]; · iexact Hmw
    iexists _; isplitr
    swap; · iexact HO
    ipureintro; exact waits_insert (waits_insert hW')

end Cert.Proof.KI
end
-- ==== Proof.Body.lean ====
/-
  The tile's whole body. It starts the fetches of the first two chunks, runs the main loop of 32 trips (Tile.lean), stores
  the sixteen vectors of row numbers into its buffer of 256 and copies that buffer to its 256 places of the result. `run`
  states what the tile is given (a share of `x`, its places of the result, its buffers, its semaphores at zero) and what it
  gives back: the same, with `result` of `x` in its places.
-/
module

public import proofs.«01_k».proof.Proof.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

local notation "𝕄" => MT nD τ sig (HIx 1) (Elt F) ℕ UU ℕ

variable [FloatOps F]
variable (d : Dev nD) (L : grid0.Coords)
variable (X : S4x8192x2048.Idx → F .f32) (q : PosShare TreeShare)

/-- The tile's 256 places of the result, as the program slices them. -/
abbrev dst (L : grid0.Coords) : Memref sig .scVector .hbm S256 .i32 :=
  ((oV).slice (Rect.unit (s := S4x2048) (k0_off39 L) S1x256.size (k0_off39_inb L)) (fun _ => rfl)).squeeze S256 squeezes_S1x256_S256

/-- The argument's array on device `d`. -/
abbrev xLoc (d : Dev nD) : Loc nD τ sig := (SparseCore.T d).loc main_arg0
/-- The result's array on device `d`. -/
abbrev oLoc (d : Dev nD) : Loc nD τ sig := (SparseCore.T d).loc main_v0

/-- A share of the whole argument. -/
abbrev xPts : sProp 𝕄 := xLoc d ↦{q} (X : Buf (Elt F) (xLoc d))
/-- The places `S` of the result, holding `f`. -/
abbrev oPts (S : Finset S4x2048.Idx) (f : S4x2048.Idx → BitVec 32) : sProp 𝕄 := oLoc d ↦[S]{fullShare} (f : Buf (Elt F) (oLoc d))

/-- The semaphore that counts the first buffer's fetches. -/
abbrev cAcell (d : Dev nD) (c : Fin τ.nSC) (i : Fin τ.nSub) : GSem nD τ sig := (V d c i, .dma cc0_scratch3.sem)
/-- The semaphore that counts the second buffer's fetches. -/
abbrev cBcell (d : Dev nD) (c : Fin τ.nSC) (i : Fin τ.nSub) : GSem nD τ sig := (V d c i, .dma cc0_scratch4.sem)
/-- The semaphore that counts the copy of the row numbers to the result. -/
abbrev cRcell (d : Dev nD) (c : Fin τ.nSC) (i : Fin τ.nSub) : GSem nD τ sig := (V d c i, .dma cc0_scoped0.sem)

/-- What the tile leaves in its row numbers' buffer: place `k` the row of its `k`-th column's largest entry. -/
def found (L : grid0.Coords) (X : S4x8192x2048.Idx → F .f32) : S256.Idx → BitVec 32 := fun y => (scan (cf L X (y 0).val) 8192).2

/-- A list of stores that fills the first `g` groups of sixteen places with what was found. -/
def Filled (g : ℕ) (l : List (View.Piece (Elt F) S256 .i32)) : Prop :=
  (∀ p ∈ l, ∀ x : p.1.shape.Idx, p.2 x = found L X (p.1.emb x)) ∧ ∀ y : S256.Idx, (y 0).val < 16 * g → ∃ p ∈ l, y ∈ p.1.set

/-- No store fills no group. -/
theorem filled_nil : Filled L X 0 [] := ⟨by simp, fun y h => absurd h (by omega)⟩

/-- A store of group `g`'s row numbers fills one group more. -/
theorem filled_cons {g : ℕ} {l : List (View.Piece (Elt F) S256 .i32)} (h : Filled L X g l) {off : Fin 1 → ℕ} (ho : off = ![16 * g])
    (inb : ∀ a, off a + S16.size a ≤ S256.size a) (hs : S16.ShapeCasts S16) :
    Filled L X (g + 1) (⟨Rect.unit (s := S256) off S16.size inb, shapeCast S16 (rows (cf L X) 8192 g) hs⟩ :: l) := by
  subst ho
  refine ⟨fun p hp => ?_, fun y hy => ?_⟩
  · rcases List.mem_cons.mp hp with rfl | hp
    · intro x
      rw [shapeCast_self]
      show (scan (cf L X (16 * g + (x 0).val)) 8192).2 = (scan (cf L X (16 * g + 1 * (x 0).val)) 8192).2
      rw [Nat.one_mul]
    · exact h.1 p hp
  · by_cases hg : (y 0).val < 16 * g
    · obtain ⟨p, hp, hy⟩ := h.2 y hg
      exact ⟨p, List.mem_cons_of_mem _ hp, hy⟩
    · refine ⟨_, List.mem_cons_self, (Rect.mem_set_unit (inb := inb)).mpr fun a => ?_⟩
      match a with
      | 0 => exact ⟨Nat.le_of_not_lt hg, show (y 0).val < 16 * g + 16 by omega⟩

/-- Once all sixteen groups are stored the buffer holds what was found, whatever it held before. -/
theorem filled_read {l : List (View.Piece (Elt F) S256 .i32)} (h : Filled L X 16 l) (f : S256.Idx → BitVec 32) :
    (rV).view.read (Elt F) ((rV).view.writes (Elt F) f l) = found L X :=
  funext fun y => View.read_writes_apply_of_pieces (rV).view f (found L X) l h.1 y (h.2 y (y 0).isLt)

/-- The tile's places of the result, in order, are what the tile finds. -/
theorem result_read : (dst L).view.read (Elt F) (result X) = found L X := by
  rw [Memref.read_squeeze_slice (Val := Elt F) oV _ _ squeezes_S1x256_S256 (show S1x256.ShapeCasts S256 by decide)]
  funext j
  refine (shapeCast_dropUnit_apply ![256] _ _ j).trans ?_
  have h0 : k0_off39 L 0 + 1 * 0 = bat L := by rw [off39_eq]; rfl
  have h1 : k0_off39 L 1 + 1 * (j 0).val = col0 L + (j 0).val := by rw [off39_eq, Nat.one_mul]; rfl
  have e : col X (k0_off39 L 0 + 1 * 0) (k0_off39 L 1 + 1 * (j 0).val) = cf L X (j 0).val := by rw [h0, h1]; rfl
  exact congrArg (fun f : ℕ → F .f32 => (Scan.scan f 8192).2) e

/-- Copying what was found to the tile's places writes the result there, whatever they held before. -/
theorem out_value (o : S4x2048.Idx → BitVec 32) {w : S256.Idx → BitVec 32} (hw : w = found L X) :
    ∀ i ∈ (dst L).view.set, (dst L).view.writes (Elt F) o [⟨Rect.whole S256, w⟩] i = result X i := by
  subst hw
  intro i hi
  obtain ⟨x, -, rfl⟩ := Finset.mem_map.mp hi
  have e := View.read_writes_apply_of_pieces (dst L).view (Val := Elt F) o (found L X) [⟨Rect.whole S256, found L X⟩]
    (fun p hp x => by
      obtain rfl := List.mem_singleton.mp hp
      exact congrArg (found L X) (Rect.emb_whole_apply S256 x).symm)
    x ⟨_, List.mem_singleton_self _, by rw [Rect.set_whole]; exact Finset.mem_univ _⟩
  exact e.trans (congrFun (result_read L X) x).symm

/-- The copied-out places hold the result. -/
theorem out_pts (o : S4x2048.Idx → BitVec 32) {w : S256.Idx → BitVec 32} (hw : w = found L X) :
    ((dst L).view.loc (V d (cV L) (jV L)) ↦[(dst L).view.set]{fullShare} (dst L).view.writes (Elt F) o [⟨Rect.whole S256, w⟩] : sProp 𝕄)
      ⊢ (dst L).view.loc (V d (cV L) (jV L)) ↦[(dst L).view.set]{fullShare} result X := by
  rw [pointsTo_congr (out_value L X o hw)]

set_option maxHeartbeats 4000000 in
/-- The tile's body leaves `result X` in the tile's places, `x` as it was and its semaphores at zero. -/
theorem run (O : CellTallies nD τ sig (HIx 1)) (W : Waits sig (HIx 1)) (o : S4x2048.Idx → BitVec 32)
    (fa fb : S128x256.Idx → F .f32) (fr : S256.Idx → BitVec 32) :
    (iprop(Transfers.MayWaits (V d (cV L) (jV L)) (default : HIx 1) O ∗ xOn d L X Finset.univ q
        ∗ ((dst L).view.loc (V d (cV L) (jV L)) ↦[(dst L).view.set]{fullShare} (o : Buf (Elt F) ((dst L).view.loc (V d (cV L) (jV L)))))
        ∗ ((aV).view.loc (V d (cV L) (jV L)) ↦{fullShare} (fa : Buf (Elt F) ((aV).view.loc (V d (cV L) (jV L)))))
        ∗ ((bV).view.loc (V d (cV L) (jV L)) ↦{fullShare} (fb : Buf (Elt F) ((bV).view.loc (V d (cV L) (jV L)))))
        ∗ ((rV).view.loc (V d (cV L) (jV L)) ↦{fullShare} (fr : Buf (Elt F) ((rV).view.loc (V d (cV L) (jV L)))))
        ∗ semVal (cAcell d (cV L) (jV L)) 0 ∗ semVal (cBcell d (cV L) (jV L)) 0 ∗ semVal (cRcell d (cV L) (jV L)) 0
        ∗ owes (V d (cV L) (jV L)) O W) : sProp 𝕄)
      ⊢ wp frame (wpE (defs₀ (F := F)) 𝒱₀ (V d (cV L) (jV L)) none) Set.univ
          (cc0__argmax_body L xV (Memref.isWhole_whole _) oV (Memref.isWhole_whole _)
            aV (Memref.isWhole_whole _) bV (Memref.isWhole_whole _) rV (Memref.isWhole_whole _)
            cc0_scratch3 cc0_scratch4 cc0_scoped0)
          fun _ => iprop(xOn d L X Finset.univ q
            ∗ ((dst L).view.loc (V d (cV L) (jV L)) ↦[(dst L).view.set]{fullShare} (result X : Buf (Elt F) ((dst L).view.loc (V d (cV L) (jV L)))))
            ∗ (∃ f, (aV).view.loc (V d (cV L) (jV L)) ↦{fullShare} f)
            ∗ (∃ f, (bV).view.loc (V d (cV L) (jV L)) ↦{fullShare} f)
            ∗ (∃ f, (rV).view.loc (V d (cV L) (jV L)) ↦{fullShare} f)
            ∗ semVal (cAcell d (cV L) (jV L)) 0 ∗ semVal (cBcell d (cV L) (jV L)) 0 ∗ semVal (cRcell d (cV L) (jV L)) 0
            ∗ ∃ W', ⌜∀ p ∈ W', p ∈ W ∨ p.2 = none⌝ ∗ owes (V d (cV L) (jV L)) O W') := by
  sl_unfold [cc0__argmax_body]
  iintro ⟨Hmw, Hx, Ho, Ha, Hb, Hr, Hca, Hcb, Hcr, HO⟩
  ihave Hx' := (pointsTo_share (PosShare.mem_left_op_right q)).1 $$ Hx
  icases Hx' with ⟨Hxa, Hxb⟩
  sl_exec
  sl_for (inv d L X q.left q.right O W) $$ [Hmw Hxa Hxb Hca Hcb HO]
  case region => exact trip d L X q.left q.right O W
  · unfold inv
    isplitr
    · ipureintro; rfl
    rw [if_pos (show 0 < 32 by decide)]
    isplitl [Hca Hcb Hxa Hxb]
    · isplitl [Hca Hxa]
      · iapply (fetch_a d L X q.left (c := 0) (off1_eq L) (by omega)); isplitl [Hca]; · iexact Hca
        iexact Hxa
      · iapply (fetch_b d L X q.right (c := 1) (off2_eq L) (by omega)); isplitl [Hcb]; · iexact Hcb
        iexact Hxb
    isplitl [Hmw]; · iexact Hmw
    iexists W; isplitr
    · ipureintro; exact fun p hp => .inl hp
    · iexact HO
  unfold inv
  rw [if_neg (show ¬ Scf.trips k0_t1_loop.lb k0_t1_loop.ub k0_t1_loop.st < 32 from by decide)]
  unfold idle_a idle_b
  iintro %acc ⟨%hacc, ⟨⟨⟨%fa', Ha⟩, Hca, Hxa⟩, ⟨%fb', Hb⟩, Hcb, Hxb⟩, Hmw, %W', %hW', HO⟩
  subst hacc
  unfold carry
  sl_exec
  sl_step
  ihave Hx := (pointsTo_share (PosShare.mem_left_op_right q)).2 $$ [Hxa Hxb]
  · isplitl [Hxa]; · iexact Hxa
    iexact Hxb
  isplitl [Hx]; · iexact Hx
  isplitl [Ho]
  · have h₁ := filled_nil L X
    have h₂ := filled_cons L X (filled_cons L X (filled_cons L X (filled_cons L X h₁ rfl (by decide) (by decide)) rfl (by decide) (by decide))
      rfl (by decide) (by decide)) rfl (by decide) (by decide)
    have h₃ := filled_cons L X (filled_cons L X (filled_cons L X (filled_cons L X h₂ rfl (by decide) (by decide)) rfl (by decide) (by decide))
      rfl (by decide) (by decide)) rfl (by decide) (by decide)
    have h₄ := filled_cons L X (filled_cons L X (filled_cons L X (filled_cons L X h₃ rfl (by decide) (by decide)) rfl (by decide) (by decide))
      rfl (by decide) (by decide)) rfl (by decide) (by decide)
    have h₅ := filled_cons L X (filled_cons L X (filled_cons L X (filled_cons L X h₄ rfl (by decide) (by decide)) rfl (by decide) (by decide))
      rfl (by decide) (by decide)) rfl (by decide) (by decide)
    iapply (out_pts d L X o (filled_read L X h₅ fr))
    iexact Ho
  isplitl [Ha]; · iexists _; iexact Ha
  isplitl [Hb]; · iexists _; iexact Hb
  isplitl [Hr]; · iexists _; iexact Hr
  isplitl [Hca]; · iexact Hca
  isplitl [Hcb]; · iexact Hcb
  isplitl [Hcr]; · iexact Hcr
  iexists _; isplitr
  swap; · iexact HO
  ipureintro; exact waits_insert hW'

end Cert.Proof.KI
end
-- ==== Proof.Launch.lean ====
/-
  The launch. The program runs one call on the SparseCores, whose tasks are the thirty-two tiles'. The call takes the
  argument `x` and the result's array whole. Each of the two SparseCores gets a share of `x` and half of the result's
  places, those of its own tiles; each tile gets a share of its SparseCore's share and its own 256 places. What comes back
  is `x` as it was and, in every place of the result, the row that `result` (Scan.lean) names. `run_main` states it of the
  whole program: it terminates, the result's array holds `result` of the argument, the argument is unchanged and every
  semaphore is back at zero.
-/
module

public import proofs.«01_k».proof.Proof.Body

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

local notation "𝕄" => MT nD τ sig (HIx 1) (Elt F) ℕ UU ℕ

/-- What the launch asks of the call's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes' rounds lie in the ghost state. -/
abbrev EH : Emb UH (MT nD τ sig (HIx 1) (Elt F) ℕ UU ℕ) := embL

/-! ## Which places of the result are whose -/

/-- The tile that finds the result's place `j`. -/
def owner (j : S4x2048.Idx) : ℕ := 8 * (j 0).val + (j 1).val / 256

/-- The places of tile `w`. -/
def spot (w : ℕ) : Finset S4x2048.Idx := Finset.univ.filter fun j => owner j = w

/-- The places of SparseCore `c`'s tiles. -/
def half (c : ℕ) : Finset S4x2048.Idx := Finset.univ.filter fun j => owner j % 2 = c

/-- There are thirty-two tiles. -/
theorem owner_lt (j : S4x2048.Idx) : owner j < 32 := by
  have h0 : (j 0).val < 4 := (j 0).isLt
  have h1 : (j 1).val < 2048 := (j 1).isLt
  unfold owner; omega

/-- The SparseCores of the call. -/
abbrev CoreIx : Type := Fin ((K (F := F)).nCore 0)
/-- The tiles of one SparseCore. -/
abbrev TileIx : Type := Fin ((K (F := F)).nSub 0)

/-- The two SparseCores' places are apart. -/
theorem half_disjoint : ∀ c ∈ (Finset.univ : Finset (CoreIx (F := F))), ∀ c' ∈ (Finset.univ : Finset (CoreIx (F := F))), c ≠ c' → Disjoint (half c.val) (half c'.val) :=
  fun c _ c' _ h => Finset.disjoint_filter.mpr fun _ _ e e' => h (Fin.ext (e.symm.trans e'))

/-- Together they are all places. -/
theorem half_cover : (Finset.univ : Finset (CoreIx (F := F))).biUnion (fun c => half c.val) = Finset.univ := by
  ext j
  simp only [Finset.mem_biUnion, Finset.mem_univ, true_and, iff_true]
  exact ⟨(⟨owner j % 2, Nat.mod_lt _ (by decide)⟩ : Fin 2), Finset.mem_filter.mpr ⟨Finset.mem_univ _, rfl⟩⟩

/-- Two tiles' places are apart. -/
theorem spot_disjoint (c : ℕ) : ∀ i ∈ (Finset.univ : Finset (TileIx (F := F))), ∀ i' ∈ (Finset.univ : Finset (TileIx (F := F))), i ≠ i' →
    Disjoint (spot (2 * i.val + c)) (spot (2 * i'.val + c)) :=
  fun i _ i' _ h => Finset.disjoint_filter.mpr fun _ _ e e' => h (Fin.ext (by omega))

/-- A SparseCore's places are its tiles' places together. -/
theorem spot_cover (c : CoreIx (F := F)) : (Finset.univ : Finset (TileIx (F := F))).biUnion (fun i => spot (2 * i.val + c.val)) = half c.val := by
  have hc : c.val < 2 := c.isLt
  ext j
  simp only [Finset.mem_biUnion, Finset.mem_univ, true_and, spot, half, Finset.mem_filter]
  constructor
  · rintro ⟨i, h⟩; omega
  · intro h
    have := owner_lt j
    exact ⟨(⟨owner j / 2, by omega⟩ : Fin 16), show owner j = 2 * (owner j / 2) + c.val by omega⟩

/-- A tile's slice of the result is its places. -/
theorem set_dst (L : grid0.Coords) : (dst L).view.set = spot (wid L) := by
  show (((oV).view.slice (Rect.unit (s := S4x2048) (k0_off39 L) S1x256.size (k0_off39_inb L))).reshape S256 squeezes_S1x256_S256.numel_eq).set = _
  rw [View.set_reshape]
  refine (View.set_slice_whole _ _).trans ?_
  show (Rect.unit (s := S4x2048) (k0_off39 L) S1x256.size (k0_off39_inb L)).set = spot (wid L)
  ext j
  have h0 : (j 0).val < 4 := (j 0).isLt
  have hb := bat_lt L
  have h1 : (j 1).val < 2048 := (j 1).isLt
  refine (Rect.mem_set_unit (inb := k0_off39_inb L)).trans ?_
  rw [off39_eq]
  refine Iff.trans ?_ (show 8 * (j 0).val + (j 1).val / 256 = wid L ↔ j ∈ spot (wid L) from
    ⟨fun h => Finset.mem_filter.mpr ⟨Finset.mem_univ _, h⟩, fun h => (Finset.mem_filter.mp h).2⟩)
  constructor
  · intro h
    have e0 : bat L ≤ (j 0).val ∧ (j 0).val < bat L + 1 := h 0
    have e1 : col0 L ≤ (j 1).val ∧ (j 1).val < col0 L + 256 := h 1
    unfold bat col0 at *
    omega
  · intro h a
    match a with
    | 0 => show bat L ≤ (j 0).val ∧ (j 0).val < bat L + 1; unfold bat; omega
    | 1 => show col0 L ≤ (j 1).val ∧ (j 1).val < col0 L + 256; unfold col0; omega

/-! ## What the handshakes carry -/

/-- SparseCore `c`'s share of `x`. -/
def coreShare (c : CoreIx (F := F)) : PosShare TreeShare := Transfers.dealOf fullShare Finset.univ c
/-- Its tile `i`'s share of that. -/
def tileShare (c : CoreIx (F := F)) (i : TileIx (F := F)) : PosShare TreeShare := Transfers.dealOf (coreShare c) Finset.univ i

variable (m : (ℓ : Loc nD τ sig) → Buf (Elt F) ℓ) (ρ : Dev nD → PrngReg)

section Carried
variable [FloatOps F]

/-- What the result's array holds at the end. -/
abbrev R (d : Dev nD) : S4x2048.Idx → BitVec 32 := result (m (xLoc d))

/-- The call hands each SparseCore a share of `x` and the places of its tiles, each tile a share of that share and its
    places; they come back with the result in them. -/
def P : (K (F := F)).Pay (nD := nD) (Val := Elt F) (Name := ℕ) (U := UU) where
  st := fun q d c => match q with | 0 => iprop(xPts d (m (xLoc d)) (coreShare c) ∗ oPts d (half c.val) (m (oLoc d)))
  dn := fun q d c => match q with | 0 => iprop(xPts d (m (xLoc d)) (coreShare c) ∗ oPts d (half c.val) (R m d))
  go := fun q d c i => match q with
    | 0 => iprop(xPts d (m (xLoc d)) (tileShare c i) ∗ oPts d (spot (2 * i.val + c.val)) (m (oLoc d)))
  td := fun q d c i => match q with
    | 0 => iprop(xPts d (m (xLoc d)) (tileShare c i) ∗ oPts d (spot (2 * i.val + c.val)) (R m d))
  x := fun _ _ => iprop(emp)

/-- What the call carries may be stored in an invariant. -/
instance P_storable : (P (F := F) m).IsStorable where
  st q d c := match q with
    | 0 => (inferInstance : BI.Storable (upEmb : UEmb _ 𝕄) iprop(xPts d (m (xLoc d)) (coreShare c) ∗ oPts d (half c.val) (m (oLoc d))))
  dn q d c := match q with
    | 0 => (inferInstance : BI.Storable (upEmb : UEmb _ 𝕄) iprop(xPts d (m (xLoc d)) (coreShare c) ∗ oPts d (half c.val) (R m d)))
  go q d c i := match q with
    | 0 => (inferInstance : BI.Storable (upEmb : UEmb _ 𝕄) iprop(xPts d (m (xLoc d)) (tileShare c i) ∗ oPts d (spot (2 * i.val + c.val)) (m (oLoc d))))
  td q d c i := match q with
    | 0 => (inferInstance : BI.Storable (upEmb : UEmb _ 𝕄) iprop(xPts d (m (xLoc d)) (tileShare c i) ∗ oPts d (spot (2 * i.val + c.val)) (R m d)))

end Carried

/-! ## The task -/

section Task

variable (d : Dev nD) (L : grid0.Coords)

/-- The tile's own semaphores: the two buffers', the copy-out's, and the rest. -/
theorem ownSems0_V :
    (ownSems0 (V d (cV L) (jV L)) : sProp 𝕄)
      = iprop(semVal (cAcell d (cV L) (jV L)) 0 ∗ semVal (cBcell d (cV L) (jV L)) 0 ∗ semVal (cRcell d (cV L) (jV L)) 0
          ∗ bigSep ((((ownCells (V d (cV L) (jV L))).erase (cAcell d (cV L) (jV L))).erase (cBcell d (cV L) (jV L))).erase (cRcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cRcell]; decide, Finset.mem_erase.mpr ⟨by simp [cAcell, cRcell]; decide,
      (mem_ownCells (g := cRcell d (cV L) (jV L))).mpr ⟨rfl, by show (SemLoc.dma cc0_scoped0.sem : SemLoc sig).isScoped .scVector = true; decide⟩⟩⟩)]

/-- The tile's own buffers: the two for chunks, the one for row numbers, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- A tile's slice of the result, held, is its places held. -/
theorem pts_dst (f : S4x2048.Idx → BitVec 32) :
    ((dst L).view.loc (V d (cV L) (jV L)) ↦[(dst L).view.set]{fullShare} f : sProp 𝕄) = oPts d (spot (wid L)) f := by
  rw [set_dst]

variable [FloatOps F]

/-- The task of tile `L`, from what the launch hands it to what it brings back. -/
theorem task (hF : (K (F := F)).Facts) (X : S4x8192x2048.Idx → F .f32) (q : PosShare TreeShare) (o : S4x2048.Idx → BitVec 32)
    (O : CellTallies nD τ sig (HIx 1)) (W : Waits sig (HIx 1)) (hO : ∀ g, O g none = 0) :
    iprop(levAts (K (F := F)).L (K (F := F)).lev ∗ emp ∗ (xPts d X q ∗ oPts d (spot (wid L)) o)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__argmax_body L xV (Memref.isWhole_whole _) oV (Memref.isWhole_whole _)
            aV (Memref.isWhole_whole _) bV (Memref.isWhole_whole _) rV (Memref.isWhole_whole _)
            cc0_scratch3 cc0_scratch4 cc0_scoped0)
          fun _ => iprop((xPts d X q ∗ oPts d (spot (wid L)) (result X))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fa, Ha⟩, ⟨%fb, Hb⟩, ⟨%fr, Hr⟩, Hbufs⟩, ⟨HcA, HcB, HcR, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_dst (F := F) d L o).symm) $$ Ho
  iapply (wp_wand_r frame)
  isplitl [Hmw Hx Ho' Ha Hb Hr HcA HcB HcR HO]
  · iapply (run d L X q O W o fa fb fr)
    isplitl [Hmw]; · iexact Hmw
    isplitl [Hx]; · iexact Hx
    isplitl [Ho']; · iexact Ho'
    isplitl [Ha]; · iexact Ha
    isplitl [Hb]; · iexact Hb
    isplitl [Hr]; · iexact Hr
    isplitl [HcA]; · iexact HcA
    isplitl [HcB]; · iexact HcB
    isplitl [HcR]; · iexact HcR
    iexact HO
  iintro %_ ⟨Hx, Ho, Ha, Hb, Hr, HcA, HcB, HcR, HO⟩
  isplitl [Hx Ho]
  · isplitl [Hx]; · iexact Hx
    iapply (Entails.of_eq (pts_dst (F := F) d L (result X))); iexact Ho
  isplitl [Ha Hb Hr Hbufs]
  · isplitl [Ha]; · iexact Ha
    isplitl [Hb]; · iexact Hb
    isplitl [Hr]; · iexact Hr
    iexact Hbufs
  isplitl [HcA HcB HcR Hsems]
  · isplitl [HcA]; · iexact HcA
    isplitl [HcB]; · iexact HcB
    isplitl [HcR]; · iexact HcR
    iexact Hsems
  iexact HO

end Task

variable [FloatOps F]

/-! ## The obligation -/

/-- Tile `s` of SparseCore `c` as a point of the grid. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the body at its point of the grid. -/
theorem defs₀_vector (c : Fin τ.nSC) (s : Fin τ.nSub) :
    defs₀ (F := F) (.scVector c s) 0 ()
      = SparseCore.onTile hcore0 hsub0 (fun c s => cc0__argmax_body (coordsV c s)
          xV (Memref.isWhole_whole _) oV (Memref.isWhole_whole _) aV (Memref.isWhole_whole _) bV (Memref.isWhole_whole _)
          rV (Memref.isWhole_whole _) cc0_scratch3 cc0_scratch4 cc0_scoped0) ⟨⟩ c s := rfl

omit [FloatOps F] in
/-- A task that waits only on its own copies waits, in particular, as the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task keeps the call's bargain. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (coordsV ⟨_, hci.1⟩ ⟨_, hci.2⟩) hF (m (xLoc d)) (tileShare c i) (m (oLoc d)) O W hO).trans (wp_mono frame _ _ fun _ => obl_post)

/-! ## Handing out and taking back -/

omit [FloatOps F] in
/-- The argument is dealt out to the SparseCores. -/
theorem x_cores (d : Dev nD) (X : S4x8192x2048.Idx → F .f32) :
    (xPts d X fullShare : sProp 𝕄) = bigSep Finset.univ fun c : CoreIx (F := F) => xPts d X (coreShare c) :=
  Transfers.pointsTo_deal Finset.univ ⟨(0 : Fin 2), Finset.mem_univ _⟩ fullShare

omit [FloatOps F] in
/-- A SparseCore's share of it is dealt out to its tiles. -/
theorem x_tiles (d : Dev nD) (X : S4x8192x2048.Idx → F .f32) (c : CoreIx (F := F)) :
    (xPts d X (coreShare c) : sProp 𝕄) = bigSep Finset.univ fun i : TileIx (F := F) => xPts d X (tileShare c i) :=
  Transfers.pointsTo_deal Finset.univ ⟨(0 : Fin 16), Finset.mem_univ _⟩ (coreShare c)

omit [FloatOps F] in
/-- The result is cut into the SparseCores' places. -/
theorem o_cores (d : Dev nD) (f : S4x2048.Idx → BitVec 32) :
    (oPts d Finset.univ f : sProp 𝕄) = bigSep Finset.univ fun c : CoreIx (F := F) => oPts d (half c.val) f := by
  rw [← half_cover (F := F)]
  exact pointsTo_biUnion Finset.univ (ℓ := oLoc d) _ (half_disjoint (F := F))

omit [FloatOps F] in
/-- A SparseCore's places are cut into its tiles'. -/
theorem o_tiles (d : Dev nD) (f : S4x2048.Idx → BitVec 32) (c : CoreIx (F := F)) :
    (oPts d (half c.val) f : sProp 𝕄) = bigSep Finset.univ fun i : TileIx (F := F) => oPts d (spot (2 * i.val + c.val)) f := by
  rw [← spot_cover c]
  exact pointsTo_biUnion Finset.univ (ℓ := oLoc d) _ (spot_disjoint (F := F) c.val)

/-- What a SparseCore holds is what its tiles hold. -/
theorem core_tiles (d : Dev nD) (c : CoreIx (F := F)) (f : S4x2048.Idx → BitVec 32) :
    (iprop(xPts d (m (xLoc d)) (coreShare c) ∗ oPts d (half c.val) f) : sProp 𝕄)
      = bigSep Finset.univ fun i : TileIx (F := F) => iprop(xPts d (m (xLoc d)) (tileShare c i) ∗ oPts d (spot (2 * i.val + c.val)) f) := by
  rw [bigSep_sep', x_tiles, o_tiles]

/-- What the call takes is what its SparseCores hold. -/
theorem call_cores (d : Dev nD) (f : S4x2048.Idx → BitVec 32) :
    (iprop(xPts d (m (xLoc d)) fullShare ∗ oPts d Finset.univ f) : sProp 𝕄)
      = bigSep Finset.univ fun c : CoreIx (F := F) => iprop(xPts d (m (xLoc d)) (coreShare c) ∗ oPts d (half c.val) f) := by
  rw [bigSep_sep', ← x_cores, ← o_cores]

/-- A SparseCore deals what it is handed to its tiles and gathers what they bring back. -/
theorem vecSplit : (K (F := F)).VecSplit' (P m) 0 := by
  intro d c
  show (iprop(xPts d (m (xLoc d)) (coreShare c) ∗ oPts d (half c.val) (m (oLoc d))) : sProp 𝕄) ⊢ |={Set.univ}=> iprop(
      (bigSep Finset.univ fun i : TileIx (F := F) => iprop(xPts d (m (xLoc d)) (tileShare c i) ∗ oPts d (spot (2 * i.val + c.val)) (m (oLoc d))))
      ∗ ((bigSep Finset.univ fun i : TileIx (F := F) => iprop(xPts d (m (xLoc d)) (tileShare c i) ∗ oPts d (spot (2 * i.val + c.val)) (R m d)))
          -∗ iprop(xPts d (m (xLoc d)) (coreShare c) ∗ oPts d (half c.val) (R m d))))
  rw [core_tiles, core_tiles]
  iintro H; imodintro
  isplitl [H]; · iexact H
  iintro H; iexact H

/-! ## The launch element of the ghost state -/

/-- The ghost state at the start. -/
def u₀ : UU := (initOf (K (F := F)).hsCells (K (F := F)).hsToks, 1)

omit [FloatOps F] in
/-- Nothing, many times, is nothing. -/
theorem bigSep_emp' {I : Type} (s : Finset I) : (bigSep s fun _ => iprop(emp)) = (iprop(emp) : sProp 𝕄) := bigSep_emp_const s

/-- It holds the handshakes' rounds, and nothing more is needed at the start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program's main function -/

omit [FloatOps F] in
/-- The arrays of the program are the argument and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the program ends with: the argument as it was, the result in its array. -/
abbrev FIN (d : Dev nD) : sProp 𝕄 := iprop(xPts d (m (xLoc d)) fullShare ∗ oPts d Finset.univ (R m d))

/-- The main function, from the launch's arrays to what the program ends with. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · iapply (Entails.of_eq (call_cores m d (m (oLoc d))))
    isplitl [Hx]; · iexact Hx
    iexact Ho
  iintro ⟨Hst, Hdn⟩
  ihave Hdn' := (show (bigSep Finset.univ fun c : Fin ((K (F := F)).nCore 0) => (P m).dn 0 d c) ⊢ FIN m d from
    Entails.of_eq (call_cores m d (R m d)).symm) $$ Hdn
  icases Hdn' with ⟨Hx, Ho⟩
  imodintro
  isplitl [Hst]; · iexact Hst
  isplitr [Hb Hts]
  · isplitl [Hx]; · iexact Hx
    iexact Ho
  isplitl [Hb] <;> iassumption

/-- What the final memory holds on device `d`. -/
def fq (d : Dev nD) (s' : Phys nD τ sig (Elt F)) : Prop := s'.mem.mem (xLoc d) = m (xLoc d) ∧ s'.mem.mem (oLoc d) = R m d

set_option maxRecDepth 16384 in
/-- What the program ends with is what the final memory holds. -/
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := R m d)) $$ [HSI Ho]
  · isplitl [HSI] <;> iassumption
  icases H with %h2
  ipureintro; exact ⟨funext fun i => h1 i (Finset.mem_univ i), funext fun i => h2 i (Finset.mem_univ i)⟩

/-! ## The program's run -/

/-- The final state: the argument as it was, the result in its array, every semaphore at zero. -/
def QC : PUnit × MemSt nD τ sig (Elt F) → Prop := fun r =>
  (∀ c : Dev nD, r.2.mem (xLoc c) = m (xLoc c) ∧ r.2.mem (oLoc c) = R m c) ∧ r.2.sem = fun _ => 0

/-- The program terminates without a fault, its argument unchanged, its result's array holding `result` of the argument,
    its semaphores at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KI

end
-- ==== Proof.Reference.lean ====
/-
  The reference's run. The reference is three constants and one reduction over axis 1 with two results, the value and the
  row, of which the row is returned. `out X` is that row as a function of the argument; `run_main` states that the program
  terminates with `out` of the argument in its result and the argument unchanged.
-/
module

public import proofs.«01_k».proof.Defs
public import proofs.«01_k».proof.Proof.Gen.ReferenceIdeal
public import Idealize.ShloMosaic.Lib.StableHlo.Run

@[expose] public section

noncomputable section

namespace Cert.Proof.RI

open Cert.ReferenceIdeal Cert.ReferenceIdeal.Gen

open Idealize.ShloMosaic Idealize.ShloMosaic.TcCoe Idealize.ShloMosaic.StableHlo Idealize.SL.Sem

variable {F : FTy → Type} [FloatOps F]

/-- The row that the reference's reduction finds in every column of `X`. -/
def out (X : FVec F S4x8192x2048 .f32) : IVec S4x2048 32 := fun j =>
  (Host.argReduce reducer_argmax_f32_i32 X (iotaInDim S4x8192x2048 32 1) (constant S_ .f32 0xFF800000#32) (constantI S_ 32 0#32)
    reducesTo_S4x8192x2048_S4x2048_d1 h_S_ j).2

/-- The reference's operations in order. -/
abbrev ops : List (HloOp τ sig (Elt F)) :=
  [TRef.nullary main_call0.v0 (iotaInDim S4x8192x2048 32 1),
   TRef.nullary main_call0.cst (constant S_ .f32 0xFF800000#32),
   TRef.nullary main_call0.c (constantI S_ 32 0#32),
   TRef.quaternary (.of main_arg0) main_call0.v0 main_call0.cst main_call0.c main_call0.v1_0
     (fun x y u v j => (Host.argReduce reducer_argmax_f32_i32 x y u v reducesTo_S4x8192x2048_S4x2048_d1 h_S_ j).1),
   TRef.quaternary (.of main_arg0) main_call0.v0 main_call0.cst main_call0.c main_call0.v1_1
     (fun x y u v j => (Host.argReduce reducer_argmax_f32_i32 x y u v reducesTo_S4x8192x2048_S4x2048_d1 h_S_ j).2)]

/-- The program is those operations one after another. -/
theorem main_eq (c : Dev nD) : main (F := F) c = seq ops := by
  simp only [main, fn_argmax.body, seq, bind_assoc, pure_bind]

/-- After them the result holds `out` of the argument. -/
theorem out_eq (V : Valuation τ sig (Elt F)) :
    after ops V (main_v0 : DevRef τ sig) = out (V (main_arg0 : DevRef τ sig)) := by
  after_results_simp
  rfl

/-- The argument is left alone. -/
theorem arg0_eq (V : Valuation τ sig (Elt F)) : after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation names arrays of the host's core only. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..⟩

variable (m : (ℓ : Loc nD τ sig) → Buf (Elt F) ℓ) (ρ : Dev nD → PrngReg)

/-- The reference terminates; its result holds `out` of the argument and the argument is unchanged. -/
theorem run_main : θ_run defs (onTc (τ := τ) (main (F := F))) ⟨m, fun _ => 0, ρ⟩ fun r => ∀ c : Dev nD,
    r.2.mem ((c.tc : Thread nD τ).loc main_v0) = out (m ((c.tc : Thread nD τ).loc main_arg0))
    ∧ r.2.mem ((c.tc : Thread nD τ).loc main_arg0) = m ((c.tc : Thread nD τ).loc main_arg0) :=
  (θ_run defs _ _).mono (fun _ h c => ⟨(h c main_v0).trans (out_eq _), (h c main_arg0).trans (arg0_eq _)⟩)
    (run_seq scopedRefs_eq scopedSems_eq defs main (fun _ => ops) main_eq (fun _ => ops_sub) m ρ)

end Cert.Proof.RI

end
-- ==== Proof.Equation.lean ====
/-
  The equation. On the extended reals the reference's reduction over axis 1 and the running maximum of `scan` (Scan.lean)
  find the same row in every column.

  The reduction at place `j` is a left fold over the pairs (entry, row) of the column in the order of the rows
  (`fiber_eq`). The fold keeps the earlier of two pairs where its entry is greater, or where the entries are equal and its
  row is smaller; `scan` takes the later pair where its entry is greater. Since rows are met in increasing order the two
  agree at every step (`reducer_eq_step`), hence after all of them (`out_eq_result`).
-/
module

public import proofs.«01_k».proof.Proof.Reference
public import proofs.«01_k».proof.Proof.Scan
public import Idealize.ShloMosaic.PureOps.Reduce
public import Idealize.ShloMosaic.PureOps.Ideal.Laws

@[expose] public section

noncomputable section

namespace Cert.Proof.Equation

open Cert.ReferenceIdeal Cert.ReferenceIdeal.Gen

open Idealize.ShloMosaic
open Cert.Proof.Scan

/-- The places of two rows of one column are in the order of the rows. -/
theorem position_val {b n c : ℕ} (hn : n < 8192) : (S4x8192x2048.rowMajor (at3 b n c)).val = (b % 4 * 8192 + n) * 2048 + c % 2048 := by
  have h := Shape.rowMajor_val_three (d := ![4, 8192, 2048]) (at3 b n c)
  have h1 : (at3 b n c 1).val = n := Nat.mod_eq_of_lt hn
  rw [h1] at h
  exact h

/-- An index lies over place `j` where it has `j`'s batch and column. -/
theorem drop_eq_iff (i : S4x8192x2048.Idx) (j : S4x2048.Idx) :
    reducesTo_S4x8192x2048_S4x2048_d1.drop i = j ↔ (i 0).val = (j 0).val ∧ (i 2).val = (j 1).val := by
  have h0 : (reducesTo_S4x8192x2048_S4x2048_d1.drop i 0 : ℕ) = i 0 := Shape.ReducesTo.drop_apply_val_of_eq _ i 0 0
  have h1 : (reducesTo_S4x8192x2048_S4x2048_d1.drop i 1 : ℕ) = i 2 := Shape.ReducesTo.drop_apply_val_of_eq _ i 1 2
  constructor
  · intro h
    rw [← h0, ← h1, h]
    exact ⟨rfl, rfl⟩
  · rintro ⟨e0, e1⟩
    funext a
    match a with
    | 0 => exact Fin.ext (h0.trans e0)
    | 1 => exact Fin.ext (h1.trans e1)

/-- The positions over place `j`, in order, are those of the column's rows 0, 1, … -/
theorem positions_eq (j : S4x2048.Idx) :
    ((List.finRange S4x8192x2048.numel).filter fun n => reducesTo_S4x8192x2048_S4x2048_d1.drop (S4x8192x2048.rowMajor.symm n) = j)
      = (List.range 8192).map fun n => S4x8192x2048.rowMajor (at3 (j 0).val n (j 1).val) := by
  have s₁ : (((List.finRange S4x8192x2048.numel).filter fun n => reducesTo_S4x8192x2048_S4x2048_d1.drop (S4x8192x2048.rowMajor.symm n) = j)).Pairwise (· < ·) :=
    (List.pairwise_lt_finRange _).filter _
  have s₂ : ((List.range 8192).map fun n => S4x8192x2048.rowMajor (at3 (j 0).val n (j 1).val)).Pairwise (· < ·) := by
    rw [List.pairwise_map]
    refine List.Pairwise.imp_of_mem ?_ List.pairwise_lt_range
    intro n k hn hk hlt
    rw [Fin.lt_def, position_val (List.mem_range.mp hn), position_val (List.mem_range.mp hk)]
    omega
  refine List.Perm.eq_of_pairwise (fun _ _ _ _ h h' => absurd h' (lt_asymm h)) s₁ s₂ ((List.perm_ext_iff_of_nodup ?_ ?_).2 fun p => ?_)
  · exact s₁.imp ne_of_lt
  · exact s₂.imp ne_of_lt
  · simp only [List.mem_filter, List.mem_finRange, true_and, decide_eq_true_eq, List.mem_map, List.mem_range]
    rw [drop_eq_iff]
    constructor
    · rintro ⟨h0, h1⟩
      exact ⟨(S4x8192x2048.rowMajor.symm p 1).val, (S4x8192x2048.rowMajor.symm p 1).isLt,
        by rw [at3_eq _ h0 rfl h1, Equiv.apply_symm_apply]⟩
    · rintro ⟨n, _, rfl⟩
      rw [Equiv.symm_apply_apply]
      exact ⟨Nat.mod_eq_of_lt (j 0).isLt, Nat.mod_eq_of_lt (j 1).isLt⟩

/-- The pairs that the reduction folds over at place `j`: the column's entries with their rows, in order. -/
theorem fiber_eq (X : FVec Ideal S4x8192x2048 .f32) (j : S4x2048.Idx) :
    Host.argReduceFiber X (iotaInDim S4x8192x2048 32 1) reducesTo_S4x8192x2048_S4x2048_d1 j
      = (List.range 8192).map fun n => (col X (j 0).val (j 1).val n, BitVec.ofNat 32 n) := by
  unfold Host.argReduceFiber
  rw [positions_eq, List.map_map]
  refine List.map_congr_left fun n hn => ?_
  have hn' : n % 8192 = n := Nat.mod_eq_of_lt (List.mem_range.mp hn)
  simp only [Function.comp_apply, Equiv.symm_apply_apply]
  refine Prod.ext rfl ?_
  show BitVec.ofNat 32 (n % 8192) = _
  rw [hn']

/-- The row found among the first `n` is one of them; among none it is row 0. -/
theorem scan_row (f : ℕ → Ideal .f32) (n : ℕ) (hn : n ≤ 8192) : (Scan.scan f n).2.toNat ≤ n - 1 := by
  induction n with
  | zero => exact le_refl 0
  | succ n ih =>
    have h := ih (by omega)
    show (Scalar.select _ (BitVec.ofNat 32 n) (Scan.scan f n).2).toNat ≤ n + 1 - 1
    unfold Scalar.select
    split
    · rw [BitVec.toNat_ofNat]; omega
    · omega

/-- One step of the fold is one step of the running maximum, when the earlier pair's row is below `n`. -/
theorem reducer_eq_step (p : Ideal .f32 × BitVec 32) (v : Ideal .f32) (n : ℕ) (hn : n < 8192) (hp : p.2.toNat ≤ n - 1) :
    reducer_argmax_f32_i32 p (v, BitVec.ofNat 32 n) = step p v (BitVec.ofNat 32 n) := by
  obtain ⟨u, i⟩ := p
  have hn' : (BitVec.ofNat 32 n).toNat = n := by rw [BitVec.toNat_ofNat]; omega
  simp only [reducer_argmax_f32_i32, step, Ideal.cmpf_def, Ideal.cmp]
  rcases lt_trichotomy u v with h | h | h
  · simp [h, h.ne, not_lt.mpr h.le, Scalar.select, IntOp.ori, IntOp.andi]
  · subst h
    rcases Nat.lt_or_ge i.toNat n with hlt | hge
    · have hs : i.slt (BitVec.ofNat 32 n) = true := by
        rw [BitVec.slt_iff_toInt_lt, BitVec.toInt_eq_toNat_of_lt (by omega), BitVec.toInt_eq_toNat_of_lt (by omega)]
        omega
      simp [Scalar.select, IntOp.ori, IntOp.andi, IntOp.cmpi, hs]
    · have hi : i = BitVec.ofNat 32 n := by
        apply BitVec.eq_of_toNat_eq
        rw [hn']
        simp only at hp
        omega
      simp [Scalar.select, hi]
  · simp [h, h.ne', not_lt.mpr h.le, Scalar.select, IntOp.ori, IntOp.andi]

/-- The fold over the first `n` rows is the running maximum after them. -/
theorem fold_eq_scan (f : ℕ → Ideal .f32) (n : ℕ) (hn : n ≤ 8192) :
    ((List.range n).map fun k => (f k, BitVec.ofNat 32 k)).foldl reducer_argmax_f32_i32 (FloatOps.ofBits .f32 0xFF800000#32, 0#32)
      = Scan.scan f n := by
  induction n with
  | zero => rfl
  | succ n ih =>
    rw [List.range_succ, List.map_append, List.foldl_append, ih (by omega)]
    exact reducer_eq_step _ _ n (by omega) (scan_row f n (by omega))

/-- The reference's reduction at place `j`, both its results, is the running maximum of the whole column. -/
theorem argReduce_eq_scan (X : FVec Ideal S4x8192x2048 .f32) (j : S4x2048.Idx) :
    Host.argReduce reducer_argmax_f32_i32 X (iotaInDim S4x8192x2048 32 1) (constant S_ .f32 0xFF800000#32) (constantI S_ 32 0#32)
        reducesTo_S4x8192x2048_S4x2048_d1 h_S_ j
      = Scan.scan (col X (j 0).val (j 1).val) 8192 := by
  rw [Ideal.argReduce_eq_reduce2, Host.reduce2_eq_foldl_fiber, fiber_eq]
  have h : ∀ n, n ≤ 8192 → ((List.range n).map fun k => (col X (j 0).val (j 1).val k, BitVec.ofNat 32 k)).foldl reducer_argmax_f32_i32
      (constant (F := Ideal) S_ .f32 0xFF800000#32 (Shape.Idx.first h_S_), constantI S_ 32 0#32 (Shape.Idx.first h_S_))
        = Scan.scan (col X (j 0).val (j 1).val) n := fun n hn => fold_eq_scan _ n hn
  exact h 8192 (le_refl _)

/-- `out` and `result` as functions of the place. -/
theorem out_fun (X : FVec Ideal S4x8192x2048 .f32) :
    RI.out X = fun j => (Host.argReduce reducer_argmax_f32_i32 X (iotaInDim S4x8192x2048 32 1) (constant S_ .f32 0xFF800000#32)
      (constantI S_ 32 0#32) reducesTo_S4x8192x2048_S4x2048_d1 h_S_ j).2 := rfl
theorem result_fun (X : FVec Ideal S4x8192x2048 .f32) :
    result X = fun j => (Scan.scan (col X (j 0).val (j 1).val) 8192).2 := rfl

/-- The reference's result is the kernel's. -/
theorem out_eq_result (X : FVec Ideal S4x8192x2048 .f32) : RI.out X = result X :=
  (out_fun X).trans ((funext fun j => congrArg Prod.snd (argReduce_eq_scan X j)).trans (result_fun X).symm)

end Cert.Proof.Equation

end
-- ==== Proof.lean ====
/-
  The claims, from the three runs. `KB.run_main` (BitsLaunch.lean) is the run of the kernel's program, read at machine
  floats; `KI.run_main` (Launch.lean) that of its idealization, read at extended reals; `RI.run_main` (Reference.lean) the
  reference's. Each says what the result's array holds at the end and that the argument is unchanged, the first two also
  that every semaphore is back at zero; the reference has no semaphore. The frames are these runs with the values dropped;
  the equality of the results is `Equation.out_eq_result` (Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.BitsLaunch
public import proofs.«01_k».proof.Proof.Equation
public import Idealize.ShloMosaic.Lib.Quiescent

@[expose] public section

noncomputable section

namespace Cert.Proof

open Idealize.ShloMosaic Idealize.SL.Sem

/-- Every type of elements has an element, at machine floats and at extended reals. -/
theorem nonempty_bits : ∀ e, Nonempty (Elt Bits e) := fun e => by cases e <;> exact ⟨0⟩
theorem nonempty_ideal : ∀ e, Nonempty (Elt Ideal e) := fun e => by cases e <;> exact ⟨0⟩

/-- The kernel terminates without a fault, its argument unchanged and its semaphores at zero. -/
theorem frame_kernel : Cert.quiescent_Kernel := fun m ρ _ =>
  haveI := nonempty_bits
  (θ_run _ _ _).mono (fun _ h => ⟨fun c => (h.1 c).1, h.2⟩) (KB.run_main (F := Bits) m ρ)

/-- So does its idealization. -/
theorem frame_ideal : Cert.quiescent_KernelIdeal := fun m ρ _ =>
  haveI := nonempty_ideal
  (θ_run _ _ _).mono (fun _ h => ⟨fun c => (h.1 c).1, h.2⟩) (KI.run_main (F := Ideal) m ρ)

/-- So does the reference. -/
theorem frame_reference : Cert.quiescent_ReferenceIdeal := fun m ρ _ =>
  (θ_run _ _ _).mono (fun r h => ⟨fun c => (h c).2, sem_eq_zero_of_no_sems (by decide) r.2⟩) (RI.run_main (F := Ideal) m ρ)

/-- Kernel and reference end with the same result, from equal arguments. -/
theorem algebraic : Cert.algebraic_KernelIdeal_ReferenceIdeal := by
  intro m ρ m' ρ' _ hagree
  haveI := nonempty_ideal
  refine ⟨fun c => Scan.result (F := Ideal) (m (KI.xLoc c)), ?_, ?_⟩
  · exact (θ_run _ _ _).mono (fun _ h c => ⟨(h.1 c).2, (h.1 c).1⟩) (KI.run_main (F := Ideal) m ρ)
  · refine (θ_run _ _ _).mono (fun _ h c => ⟨(h c).1.trans ?_, (h c).2⟩) (RI.run_main (F := Ideal) m' ρ')
    rw [hagree c]
    exact Equation.out_eq_result _

/-- Everything claimed. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
